-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "big" .f32 0x7149F2CA#32 ⊤

def algebraic_KernelIdeal_ReferenceIdeal_on_untied [hKernelIdeal : Cert.KernelIdeal.Facts] [hReferenceIdeal : Cert.ReferenceIdeal.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 4096, 2048]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v18) i = v0 c i)
          ∧ (∀ i : (⟨3, ![2, 4096, 2048]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.KernelIdeal.nD Cert.KernelIdeal.τ).loc Cert.KernelIdeal.main_v19) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 4096, 2048]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_indices) i = v0 c i)
          ∧ (∀ i : (⟨3, ![2, 4096, 2048]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.ReferenceIdeal.nD Cert.ReferenceIdeal.τ).loc Cert.ReferenceIdeal.main_v37) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hOn_untied : Cert.On_untied.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_untied (hKernelIdeal := hKernelIdeal) (hReferenceIdeal := hReferenceIdeal) (hOn_untied := hOn_untied)
-- ==== On_untied.lean ====
abbrev S2x4096x2048 : Shape := ⟨3, ![2, 4096, 2048]⟩
abbrev S2x4096x512 : Shape := ⟨3, ![2, 4096, 512]⟩
abbrev S2048x128 : Shape := ⟨2, ![2048, 128]⟩
abbrev S512x128 : Shape := ⟨2, ![512, 128]⟩
abbrev S128 : Shape := ⟨1, ![128]⟩
abbrev S2x4096x128 : Shape := ⟨3, ![2, 4096, 128]⟩
abbrev S_ : Shape := ⟨0, ![]⟩
abbrev S2x4096 : Shape := ⟨2, ![2, 4096]⟩
abbrev S2x4096x1 : Shape := ⟨3, ![2, 4096, 1]⟩
abbrev S1x1x128 : Shape := ⟨3, ![1, 1, 128]⟩
abbrev S2x4096x4096 : Shape := ⟨3, ![2, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S2x4096x2049 : Shape := ⟨3, ![2, 4096, 2049]⟩
abbrev S2x4096x2047 : Shape := ⟨3, ![2, 4096, 2047]⟩

class Facts : Prop where
  reducesTo_S2x4096x128_S2x4096_d2 : S2x4096x128.ReducesTo [2] S2x4096
  h_S_ : 0 < S_.numel
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x128_0_1_2 : S2x4096x1.BroadcastsInDim S2x4096x128 (![0, 1, 2] : Fin 3 → Fin S2x4096x128.rank)
  bcast_S128_S1x1x128_2 : S128.BroadcastsInDim S1x1x128 (![2] : Fin 1 → Fin S1x1x128.rank)
  bcast_S1x1x128_S2x4096x128_0_1_2 : S1x1x128.BroadcastsInDim S2x4096x128 (![0, 1, 2] : Fin 3 → Fin S2x4096x128.rank)
  bcast_S_S2x4096x4096 : S_.BroadcastsInDim S2x4096x4096 (![] : Fin 0 → Fin S2x4096x4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S4096x4096_S1x4096x4096_1_2 : S4096x4096.BroadcastsInDim S1x4096x4096 (![1, 2] : Fin 2 → Fin S1x4096x4096.rank)
  bcast_S1x4096x4096_S2x4096x4096_0_1_2 : S1x4096x4096.BroadcastsInDim S2x4096x4096 (![0, 1, 2] : Fin 3 → Fin S2x4096x4096.rank)
  sliceFits_S2x4096x4096_S2x4096x2049 : S2x4096x4096.Slices (fun _ => 0) S2x4096x2049
  slices_S2x4096x2049_S2x4096x2048_0_0_0 : S2x4096x2049.Slices ![0, 0, 0] S2x4096x2048
  slices_S2x4096x2049_S2x4096x2048_0_0_1 : S2x4096x2049.Slices ![0, 0, 1] S2x4096x2048
  slices_S2x4096x2048_S2x4096x2047_0_0_0 : S2x4096x2048.Slices ![0, 0, 0] S2x4096x2047
  concatenates_S2x4096x1_S2x4096x2047_S2x4096x2048_d2 : Shape.Concatenates [S2x4096x1, S2x4096x2047] S2x4096x2048 2
  bcast_S_S2x4096x2048 : S_.BroadcastsInDim S2x4096x2048 (![] : Fin 0 → Fin S2x4096x2048.rank)
  dot_S2x4096x2048_S2048x128_S2x4096x128_2_0_01_1_n_n_wf : DotDims.WF S2x4096x2048 S2048x128 S2x4096x128 [2] [0] [0, 1] [1] [] []
  dot_S2x4096x512_S512x128_S2x4096x128_2_0_01_1_n_n_wf : DotDims.WF S2x4096x512 S512x128 S2x4096x128 [2] [0] [0, 1] [1] [] []
  dot_S2x4096x128_S2x4096x128_S2x4096x4096_2_2_1_1_0_0_wf : DotDims.WF S2x4096x128 S2x4096x128 S2x4096x4096 [2] [2] [1] [1] [0] [0]

variable [Facts]

def dot_S2x4096x2048_S2048x128_S2x4096x128_2_0_01_1_n_n : DotDims S2x4096x2048 S2048x128 S2x4096x128 where
  lhsContracting := [2]
  rhsContracting := [0]
  lhsNonContracting := [0, 1]
  rhsNonContracting := [1]
  lhsBatch := []
  rhsBatch := []
  wf := dot_S2x4096x2048_S2048x128_S2x4096x128_2_0_01_1_n_n_wf
def dot_S2x4096x512_S512x128_S2x4096x128_2_0_01_1_n_n : DotDims S2x4096x512 S512x128 S2x4096x128 where
  lhsContracting := [2]
  rhsContracting := [0]
  lhsNonContracting := [0, 1]
  rhsNonContracting := [1]
  lhsBatch := []
  rhsBatch := []
  wf := dot_S2x4096x512_S512x128_S2x4096x128_2_0_01_1_n_n_wf
def dot_S2x4096x128_S2x4096x128_S2x4096x4096_2_2_1_1_0_0 : DotDims S2x4096x128 S2x4096x128 S2x4096x4096 where
  lhsContracting := [2]
  rhsContracting := [2]
  lhsNonContracting := [1]
  rhsNonContracting := [1]
  lhsBatch := [0]
  rhsBatch := [0]
  wf := dot_S2x4096x128_S2x4096x128_S2x4096x4096_2_2_1_1_0_0_wf
def fn_where {F : FTy → Type} [FloatOps F] (arg0 : IVec S1x4096x4096 1) (arg1 : FVec F S2x4096x4096 .f32) (arg2 : FVec F S_ .f32) : FVec F S2x4096x4096 .f32 :=
  let v0 : FVec F S_ .f32 := id arg2
  let v1 : IVec S2x4096x4096 1 := broadcastInDim S2x4096x4096 ![0, 1, 2] bcast_S1x4096x4096_S2x4096x4096_0_1_2 arg0
  let v2 : FVec F S2x4096x4096 .f32 := broadcastInDim S2x4096x4096 ![] bcast_S_S2x4096x4096 v0
  let v3 : FVec F S2x4096x4096 .f32 := select v1 arg1 v2
  v3

def fn_part1 {F : FTy → Type} [FloatOps F] (main_v17 : FVec F S2x4096x4096 .f32) (main_v18 : IVec S4096 32) (main_v19 : IVec S4096 32) : IVec S2x4096x2048 1 × IVec S2x4096x2048 1 :=
  let main_v20 : IVec S4096x1 32 := broadcastInDim S4096x1 ![0] bcast_S4096_S4096x1_0 main_v18
  let main_v21 : IVec S1x4096 32 := broadcastInDim S1x4096 ![1] bcast_S4096_S1x4096_1 main_v19
  let main_v22 : IVec S4096x4096 32 := broadcastInDim S4096x4096 ![0, 1] bcast_S4096x1_S4096x4096_0_1 main_v20
  let main_v23 : IVec S4096x4096 32 := broadcastInDim S4096x4096 ![0, 1] bcast_S1x4096_S4096x4096_0_1 main_v21
  let main_v24 : IVec S4096x4096 1 := cmpi .sge main_v22 main_v23
  let main_v25 : IVec S1x4096x4096 1 := broadcastInDim S1x4096x4096 ![1, 2] bcast_S4096x4096_S1x4096x4096_1_2 main_v24
  let main_cst_3 : FVec F S_ .f32 := constant S_ .f32 0xFF800000#32
  let main_v26 : FVec F S2x4096x4096 .f32 := fn_where (F := F) main_v25 main_v17 main_cst_3
  let main_values : FVec F S2x4096x2049 .f32 := (fun x => (Host.topK S2x4096x2049 2 (FloatOps.cmpfTotal .gt) x sliceFits_S2x4096x4096_S2x4096x2049).1) main_v26
  let main_indices : IVec S2x4096x2049 32 := (fun x => (Host.topK S2x4096x2049 2 (FloatOps.cmpfTotal .gt) x sliceFits_S2x4096x4096_S2x4096x2049).2) main_v26
  let main_v27 : FVec F S2x4096x2048 .f32 := (extractStridedSlice S2x4096x2048 ![0, 0, 0] · slices_S2x4096x2049_S2x4096x2048_0_0_0) main_values
  let main_v28 : FVec F S2x4096x2048 .f32 := (extractStridedSlice S2x4096x2048 ![0, 0, 1] · slices_S2x4096x2049_S2x4096x2048_0_0_1) main_values
  let main_v29 : IVec S2x4096x2048 1 := cmpf .ogt main_v27 main_v28
  let main_c : IVec S_ 1 := constantI S_ 1 1#1
  let main_v30 : IVec S2x4096x1 1 := broadcastInDim S2x4096x1 ![] bcast_S_S2x4096x1 main_c
  let main_v31 : IVec S2x4096x2047 1 := (extractStridedSlice S2x4096x2047 ![0, 0, 0] · slices_S2x4096x2048_S2x4096x2047_0_0_0) main_v29
  let main_v32 : IVec S2x4096x2048 1 := (fun a b => concatenate S2x4096x2048 2 [⟨S2x4096x1, a⟩, ⟨S2x4096x2047, b⟩] concatenates_S2x4096x1_S2x4096x2047_S2x4096x2048_d2) main_v30 main_v31
  let main_v33 : IVec S2x4096x2048 1 := andi main_v29 main_v32
  let main_c_4 : IVec S_ 1 := constantI S_ 1 1#1
  let main_v34 : IVec S2x4096x2048 1 := broadcastInDim S2x4096x2048 ![] bcast_S_S2x4096x2048 main_c_4
  (main_v33, main_v34)

def fn {F : FTy → Type} [FloatOps F] (main_arg0 : FVec F S2x4096x2048 .f32) (main_arg1 : FVec F S2x4096x512 .f32) (main_arg2 : FVec F S2048x128 .f32) (main_arg3 : FVec F S512x128 .f32) (main_arg4 : FVec F S128 .f32) : IVec S2x4096x2048 1 × IVec S2x4096x2048 1 :=
  let main_v0 : FVec F S2x4096x128 .f32 := (fun l r => Host.dotGeneral dot_S2x4096x2048_S2048x128_S2x4096x128_2_0_01_1_n_n none l r) main_arg0 main_arg2
  let main_v1 : FVec F S2x4096x128 .f32 := (fun l r => Host.dotGeneral dot_S2x4096x512_S512x128_S2x4096x128_2_0_01_1_n_n none l r) main_arg1 main_arg3
  let main_v2 : FVec F S2x4096x128 .f32 := mulf main_v1 main_v1
  let main_cst : FVec F S_ .f32 := constant S_ .f32 0x00000000#32
  let main_v3 : FVec F S2x4096 .f32 := (fun x v => Host.reduceAdd x v reducesTo_S2x4096x128_S2x4096_d2 h_S_) main_v2 main_cst
  let main_v4 : FVec F S2x4096x1 .f32 := broadcastInDim S2x4096x1 ![0, 1] bcast_S2x4096_S2x4096x1_0_1 main_v3
  let main_cst_0 : FVec F S_ .f32 := constant S_ .f32 0x43000000#32
  let main_v5 : FVec F S2x4096x1 .f32 := broadcastInDim S2x4096x1 ![] bcast_S_S2x4096x1 main_cst_0
  let main_v6 : FVec F S2x4096x1 .f32 := Host.divf main_v4 main_v5
  let main_cst_1 : FVec F S_ .f32 := constant S_ .f32 0x358637BD#32
  let main_v7 : FVec F S2x4096x1 .f32 := broadcastInDim S2x4096x1 ![] bcast_S_S2x4096x1 main_cst_1
  let main_v8 : FVec F S2x4096x1 .f32 := addf main_v6 main_v7
  let main_v9 : FVec F S2x4096x1 .f32 := Host.rsqrt main_v8
  let main_v10 : FVec F S2x4096x128 .f32 := broadcastInDim S2x4096x128 ![0, 1, 2] bcast_S2x4096x1_S2x4096x128_0_1_2 main_v9
  let main_v11 : FVec F S2x4096x128 .f32 := mulf main_v1 main_v10
  let main_v12 : FVec F S1x1x128 .f32 := broadcastInDim S1x1x128 ![2] bcast_S128_S1x1x128_2 main_arg4
  let main_v13 : FVec F S2x4096x128 .f32 := broadcastInDim S2x4096x128 ![0, 1, 2] bcast_S1x1x128_S2x4096x128_0_1_2 main_v12
  let main_v14 : FVec F S2x4096x128 .f32 := mulf main_v11 main_v13
  let main_v15 : FVec F S2x4096x4096 .f32 := (fun l r => Host.dotGeneral dot_S2x4096x128_S2x4096x128_S2x4096x4096_2_2_1_1_0_0 none l r) main_v0 main_v14
  let main_cst_2 : FVec F S_ .f32 := constant S_ .f32 0x413504F3#32
  let main_v16 : FVec F S2x4096x4096 .f32 := broadcastInDim S2x4096x4096 ![] bcast_S_S2x4096x4096 main_cst_2
  let main_v17 : FVec F S2x4096x4096 .f32 := Host.divf main_v15 main_v16
  let main_v18 : IVec S4096 32 := iotaInDim S4096 32 0
  let main_v19 : IVec S4096 32 := iotaInDim S4096 32 0
  fn_part1 (F := F) main_v17 main_v18 main_v19
-- ==== Kernel.lean ====
abbrev S2x4096x2048 : Shape := ⟨3, ![2, 4096, 2048]⟩
abbrev S2x4096x512 : Shape := ⟨3, ![2, 4096, 512]⟩
abbrev S2048x128 : Shape := ⟨2, ![2048, 128]⟩
abbrev S512x128 : Shape := ⟨2, ![512, 128]⟩
abbrev S128 : Shape := ⟨1, ![128]⟩
abbrev S2x4096x128 : Shape := ⟨3, ![2, 4096, 128]⟩
abbrev S_ : Shape := ⟨0, ![]⟩
abbrev S2x4096 : Shape := ⟨2, ![2, 4096]⟩
abbrev S2x4096x1 : Shape := ⟨3, ![2, 4096, 1]⟩
abbrev S1x1x128 : Shape := ⟨3, ![1, 1, 128]⟩
abbrev S2x2048x128 : Shape := ⟨3, ![2, 2048, 128]⟩
abbrev S2x2048x2048 : Shape := ⟨3, ![2, 2048, 2048]⟩
abbrev S1x256x128 : Shape := ⟨3, ![1, 256, 128]⟩
abbrev S1x2048x128 : Shape := ⟨3, ![1, 2048, 128]⟩
abbrev S1x256x2048 : Shape := ⟨3, ![1, 256, 2048]⟩
abbrev S256x128 : Shape := ⟨2, ![256, 128]⟩
abbrev S256x2048 : Shape := ⟨2, ![256, 2048]⟩
abbrev S256x2047 : Shape := ⟨2, ![256, 2047]⟩
abbrev S256x1 : Shape := ⟨2, ![256, 1]⟩
abbrev S256x2046 : Shape := ⟨2, ![256, 2046]⟩
abbrev S256x2 : Shape := ⟨2, ![256, 2]⟩
abbrev S256x2044 : Shape := ⟨2, ![256, 2044]⟩
abbrev S256x4 : Shape := ⟨2, ![256, 4]⟩
abbrev S256x2040 : Shape := ⟨2, ![256, 2040]⟩
abbrev S256x8 : Shape := ⟨2, ![256, 8]⟩
abbrev S256x2032 : Shape := ⟨2, ![256, 2032]⟩
abbrev S256x16 : Shape := ⟨2, ![256, 16]⟩
abbrev S256x2016 : Shape := ⟨2, ![256, 2016]⟩
abbrev S256x32 : Shape := ⟨2, ![256, 32]⟩
abbrev S256x1984 : Shape := ⟨2, ![256, 1984]⟩
abbrev S256x64 : Shape := ⟨2, ![256, 64]⟩
abbrev S256x1920 : Shape := ⟨2, ![256, 1920]⟩
abbrev S256x1792 : Shape := ⟨2, ![256, 1792]⟩
abbrev S256x256 : Shape := ⟨2, ![256, 256]⟩
abbrev S256x1536 : Shape := ⟨2, ![256, 1536]⟩
abbrev S256x512 : Shape := ⟨2, ![256, 512]⟩
abbrev S256x1024 : Shape := ⟨2, ![256, 1024]⟩
abbrev S256 : Shape := ⟨1, ![256]⟩
abbrev S1x4096x128 : Shape := ⟨3, ![1, 4096, 128]⟩
abbrev S4096x128 : Shape := ⟨2, ![4096, 128]⟩
abbrev S256x4096 : Shape := ⟨2, ![256, 4096]⟩
abbrev S256x4095 : Shape := ⟨2, ![256, 4095]⟩
abbrev S256x4094 : Shape := ⟨2, ![256, 4094]⟩
abbrev S256x4092 : Shape := ⟨2, ![256, 4092]⟩
abbrev S256x4088 : Shape := ⟨2, ![256, 4088]⟩
abbrev S256x4080 : Shape := ⟨2, ![256, 4080]⟩
abbrev S256x4064 : Shape := ⟨2, ![256, 4064]⟩
abbrev S256x4032 : Shape := ⟨2, ![256, 4032]⟩
abbrev S256x3968 : Shape := ⟨2, ![256, 3968]⟩
abbrev S256x3840 : Shape := ⟨2, ![256, 3840]⟩
abbrev S256x3584 : Shape := ⟨2, ![256, 3584]⟩
abbrev S256x3072 : Shape := ⟨2, ![256, 3072]⟩

abbrev nBuf : Space → Nat
  | .hbm => 30
  | .vmem => 16
  | .smem => 0
  | _ => 0

abbrev bufTy : (tb : Table) → Fin (tcTables nBuf tb) → BufTy
  | .hbm, ⟨0, _⟩ => ⟨S2x4096x2048, .f32⟩
  | .hbm, ⟨1, _⟩ => ⟨S2x4096x512, .f32⟩
  | .hbm, ⟨2, _⟩ => ⟨S2048x128, .f32⟩
  | .hbm, ⟨3, _⟩ => ⟨S512x128, .f32⟩
  | .hbm, ⟨4, _⟩ => ⟨S128, .f32⟩
  | .hbm, ⟨5, _⟩ => ⟨S2x4096x128, .f32⟩
  | .hbm, ⟨6, _⟩ => ⟨S2x4096x128, .f32⟩
  | .hbm, ⟨7, _⟩ => ⟨S2x4096x128, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x128, .f32⟩
  | .hbm, ⟨19, _⟩ => ⟨S2x4096x128, .f32⟩
  | .hbm, ⟨20, _⟩ => ⟨S1x1x128, .f32⟩
  | .hbm, ⟨21, _⟩ => ⟨S2x4096x128, .f32⟩
  | .hbm, ⟨22, _⟩ => ⟨S2x4096x128, .f32⟩
  | .hbm, ⟨23, _⟩ => ⟨S2x2048x128, .f32⟩
  | .hbm, ⟨24, _⟩ => ⟨S2x2048x2048, .i32⟩
  | .hbm, ⟨25, _⟩ => ⟨S2x2048x2048, .f32⟩
  | .hbm, ⟨26, _⟩ => ⟨S2x2048x2048, .i32⟩
  | .hbm, ⟨27, _⟩ => ⟨S2x2048x2048, .f32⟩
  | .hbm, ⟨28, _⟩ => ⟨S2x4096x2048, .i32⟩
  | .hbm, ⟨29, _⟩ => ⟨S2x4096x2048, .f32⟩
  | .local _ .vmem, ⟨0, _⟩ => ⟨S1x256x128, .f32⟩
  | .local _ .vmem, ⟨1, _⟩ => ⟨S1x256x128, .f32⟩
  | .local _ .vmem, ⟨2, _⟩ => ⟨S1x2048x128, .f32⟩
  | .local _ .vmem, ⟨3, _⟩ => ⟨S1x2048x128, .f32⟩
  | .local _ .vmem, ⟨4, _⟩ => ⟨S1x256x2048, .i32⟩
  | .local _ .vmem, ⟨5, _⟩ => ⟨S1x256x2048, .i32⟩
  | .local _ .vmem, ⟨6, _⟩ => ⟨S1x256x2048, .f32⟩
  | .local _ .vmem, ⟨7, _⟩ => ⟨S1x256x2048, .f32⟩
  | .local _ .vmem, ⟨8, _⟩ => ⟨S1x256x128, .f32⟩
  | .local _ .vmem, ⟨9, _⟩ => ⟨S1x256x128, .f32⟩
  | .local _ .vmem, ⟨10, _⟩ => ⟨S1x4096x128, .f32⟩
  | .local _ .vmem, ⟨11, _⟩ => ⟨S1x4096x128, .f32⟩
  | .local _ .vmem, ⟨12, _⟩ => ⟨S1x256x2048, .i32⟩
  | .local _ .vmem, ⟨13, _⟩ => ⟨S1x256x2048, .i32⟩
  | .local _ .vmem, ⟨14, _⟩ => ⟨S1x256x2048, .f32⟩
  | .local _ .vmem, ⟨15, _⟩ => ⟨S1x256x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v17_0 : Ref sig .tc := ⟨.hbm, 26, rfl⟩
abbrev main_v17_1 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![arg0.toNat, v0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x2048 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== KernelIdeal.lean ====
variable {F : FTy → Type} [FloatOps F] [Named F]
def κ : String → Option EReal := fun
  | "big" => some ⊤
  | _ => none
-- ==== ReferenceIdeal.lean ====
abbrev S2x4096x2048 : Shape := ⟨3, ![2, 4096, 2048]⟩
abbrev S2x4096x512 : Shape := ⟨3, ![2, 4096, 512]⟩
abbrev S2048x128 : Shape := ⟨2, ![2048, 128]⟩
abbrev S512x128 : Shape := ⟨2, ![512, 128]⟩
abbrev S128 : Shape := ⟨1, ![128]⟩
abbrev S2x4096x128 : Shape := ⟨3, ![2, 4096, 128]⟩
abbrev S_ : Shape := ⟨0, ![]⟩
abbrev S2x4096 : Shape := ⟨2, ![2, 4096]⟩
abbrev S2x4096x1 : Shape := ⟨3, ![2, 4096, 1]⟩
abbrev S1x1x128 : Shape := ⟨3, ![1, 1, 128]⟩
abbrev S2x4096x4096 : Shape := ⟨3, ![2, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩

abbrev nBuf : Space → Nat
  | .hbm => 56
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x512, .f32⟩
  | .hbm, ⟨2, _⟩ => ⟨S2048x128, .f32⟩
  | .hbm, ⟨3, _⟩ => ⟨S512x128, .f32⟩
  | .hbm, ⟨4, _⟩ => ⟨S128, .f32⟩
  | .hbm, ⟨5, _⟩ => ⟨S2x4096x128, .f32⟩
  | .hbm, ⟨6, _⟩ => ⟨S2x4096x128, .f32⟩
  | .hbm, ⟨7, _⟩ => ⟨S2x4096x128, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x128, .f32⟩
  | .hbm, ⟨19, _⟩ => ⟨S2x4096x128, .f32⟩
  | .hbm, ⟨20, _⟩ => ⟨S1x1x128, .f32⟩
  | .hbm, ⟨21, _⟩ => ⟨S2x4096x128, .f32⟩
  | .hbm, ⟨22, _⟩ => ⟨S2x4096x128, .f32⟩
  | .hbm, ⟨23, _⟩ => ⟨S2x4096x4096, .f32⟩
  | .hbm, ⟨24, _⟩ => ⟨S_, .f32⟩
  | .hbm, ⟨25, _⟩ => ⟨S2x4096x4096, .f32⟩
  | .hbm, ⟨26, _⟩ => ⟨S2x4096x4096, .f32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S1x4096, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S1x4096x4096, .i1⟩
  | .hbm, ⟨35, _⟩ => ⟨S_, .f32⟩
  | .hbm, ⟨36, _⟩ => ⟨S_, .f32⟩
  | .hbm, ⟨37, _⟩ => ⟨S2x4096x4096, .i1⟩
  | .hbm, ⟨38, _⟩ => ⟨S2x4096x4096, .f32⟩
  | .hbm, ⟨39, _⟩ => ⟨S2x4096x4096, .f32⟩
  | .hbm, ⟨40, _⟩ => ⟨S2x4096x2048, .f32⟩
  | .hbm, ⟨41, _⟩ => ⟨S2x4096x2048, .i32⟩
  | .hbm, ⟨42, _⟩ => ⟨S_, .f32⟩
  | .hbm, ⟨43, _⟩ => ⟨S2x4096, .f32⟩
  | .hbm, ⟨44, _⟩ => ⟨S_, .f32⟩
  | .hbm, ⟨45, _⟩ => ⟨S2x4096, .f32⟩
  | .hbm, ⟨46, _⟩ => ⟨S2x4096, .f32⟩
  | .hbm, ⟨47, _⟩ => ⟨S2x4096x1, .f32⟩
  | .hbm, ⟨48, _⟩ => ⟨S2x4096x2048, .f32⟩
  | .hbm, ⟨49, _⟩ => ⟨S2x4096x2048, .f32⟩
  | .hbm, ⟨50, _⟩ => ⟨S2x4096x2048, .f32⟩
  | .hbm, ⟨51, _⟩ => ⟨S_, .f32⟩
  | .hbm, ⟨52, _⟩ => ⟨S2x4096, .f32⟩
  | .hbm, ⟨53, _⟩ => ⟨S2x4096x1, .f32⟩
  | .hbm, ⟨54, _⟩ => ⟨S2x4096x2048, .f32⟩
  | .hbm, ⟨55, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_values : Ref sig .tc := ⟨.hbm, 40, rfl⟩
abbrev main_indices : Ref sig .tc := ⟨.hbm, 41, rfl⟩
abbrev main_cst_4 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]
-- ==== Proof.Stage.lean ====
/- One compare-exchange stage of the kernel's sorting network, written once for every width, step and
   block length, and the chain of stages a launch runs. The keys are followed by themselves, since the
   keys of a stage do not depend on the carried positions; the positions are followed beside them. -/
module

public import proofs.«01_k».proof.Proof.Gen.KernelIdeal

@[expose] public section

noncomputable section

namespace TopK

open Idealize.ShloMosaic

/-- The shape of one block of keys: 256 rows of `n` keys. -/
abbrev Sh (n : ℕ) : Shape := ⟨2, ![256, n]⟩

theorem slices_of (n m o : ℕ) (h : o + m ≤ n) : (Sh n).Slices ![0, o] (Sh m) := by
  refine ⟨rfl, fun a => ?_⟩
  match a with
  | ⟨0, _⟩ => exact le_of_eq (Nat.zero_add _)
  | ⟨1, _⟩ => exact h

theorem concat_of (a b n : ℕ) (h : a + b = n) : Shape.Concatenates [Sh a, Sh b] (Sh n) 1 := by
  subst h
  refine ⟨le_refl _, fun s hs => ?_, ?_⟩
  · rcases List.mem_cons.1 hs with rfl | hs
    · refine ⟨rfl, fun c hc => ?_⟩
      match c with
      | ⟨0, _⟩ => rfl
      | ⟨1, _⟩ => exact absurd rfl hc
    · obtain rfl := List.mem_singleton.1 hs
      refine ⟨rfl, fun c hc => ?_⟩
      match c with
      | ⟨0, _⟩ => rfl
      | ⟨1, _⟩ => exact absurd rfl hc
  · simp

variable {F : FTy → Type} [FloatOps F]

/-- Every row rotated so that position `q` reads position `q + j`. -/
def dnOf {α : Type} (n j : ℕ) (h : j ≤ n) (x : (Sh n).Idx → α) : (Sh n).Idx → α :=
  concatenate (Sh n) 1 [⟨Sh (n - j), extractStridedSlice (Sh (n - j)) ![0, j] x (slices_of n (n - j) j (by omega))⟩,
    ⟨Sh j, extractStridedSlice (Sh j) ![0, 0] x (slices_of n j 0 (by omega))⟩] (concat_of (n - j) j n (by omega))

/-- Every row rotated so that position `q` reads position `q - j`. -/
def upOf {α : Type} (n j : ℕ) (h : j ≤ n) (x : (Sh n).Idx → α) : (Sh n).Idx → α :=
  concatenate (Sh n) 1 [⟨Sh j, extractStridedSlice (Sh j) ![0, n - j] x (slices_of n j (n - j) (by omega))⟩,
    ⟨Sh (n - j), extractStridedSlice (Sh (n - j)) ![0, 0] x (slices_of n (n - j) 0 (by omega))⟩] (concat_of j (n - j) n (by omega))

/-- Where the bits of `m` are clear in the position along the row. -/
def clear (n m : ℕ) (cols : IVec (Sh n) 32) : IVec (Sh n) 1 :=
  cmpi .eq (andi cols (broadcast (Sh n) (BitVec.ofNat 32 m))) (broadcast (Sh n) 0#32)

/-- Each key's partner at distance `j`. -/
def pairOf {α : Type} (n j : ℕ) (h : j ≤ n) (cols : IVec (Sh n) 32) (x : (Sh n).Idx → α) : (Sh n).Idx → α :=
  select (clear n j cols) (dnOf n j h x) (upOf n j h x)

/-- Where a stage keeps the smaller of a pair. -/
def wantMin (n k j : ℕ) (cols : IVec (Sh n) 32) : IVec (Sh n) 1 :=
  xori (xori (clear n j cols) (clear n k cols)) (constantI (Sh n) 1 1#1)

/-- One stage on the keys. -/
def keyStep (n : ℕ) (cols : IVec (Sh n) 32) (kj : ℕ × ℕ) (x : FVec F (Sh n) .f32) : FVec F (Sh n) .f32 :=
  if h : kj.2 ≤ n then
    select (wantMin n kj.1 kj.2 cols) (minimumf x (pairOf n kj.2 h cols x)) (maximumf x (pairOf n kj.2 h cols x))
  else x

/-- A chain of stages on the keys. -/
def keyRun (n : ℕ) (cols : IVec (Sh n) 32) : List (ℕ × ℕ) → FVec F (Sh n) .f32 → FVec F (Sh n) .f32
  | [], x => x
  | kj :: l, x => keyRun n cols l (keyStep n cols kj x)

/-- One stage on the positions carried beside the keys `x`. -/
def posStep (n : ℕ) (cols : IVec (Sh n) 32) (kj : ℕ × ℕ) (x : FVec F (Sh n) .f32) (p : IVec (Sh n) 32) : IVec (Sh n) 32 :=
  if h : kj.2 ≤ n then
    select (xori (cmpf .ole x (pairOf n kj.2 h cols x)) (wantMin n kj.1 kj.2 cols)) (pairOf n kj.2 h cols p) p
  else p

/-- A chain of stages on the positions. -/
def posRun (n : ℕ) (cols : IVec (Sh n) 32) : List (ℕ × ℕ) → FVec F (Sh n) .f32 → IVec (Sh n) 32 → IVec (Sh n) 32
  | [], x, p => p
  | kj :: l, x, p => posRun n cols l (keyStep n cols kj x) (posStep n cols kj x p)

/-- The block lengths and distances of the 66 stages over 2048 keys. -/
def sched11 : List (ℕ × ℕ) :=
  [(2, 1), (4, 2), (4, 1), (8, 4), (8, 2), (8, 1), (16, 8), (16, 4),
   (16, 2), (16, 1), (32, 16), (32, 8), (32, 4), (32, 2), (32, 1), (64, 32),
   (64, 16), (64, 8), (64, 4), (64, 2), (64, 1), (128, 64), (128, 32), (128, 16),
   (128, 8), (128, 4), (128, 2), (128, 1), (256, 128), (256, 64), (256, 32), (256, 16),
   (256, 8), (256, 4), (256, 2), (256, 1), (512, 256), (512, 128), (512, 64), (512, 32),
   (512, 16), (512, 8), (512, 4), (512, 2), (512, 1), (1024, 512), (1024, 256), (1024, 128),
   (1024, 64), (1024, 32), (1024, 16), (1024, 8), (1024, 4), (1024, 2), (1024, 1), (2048, 1024),
   (2048, 512), (2048, 256), (2048, 128), (2048, 64), (2048, 32), (2048, 16), (2048, 8), (2048, 4),
   (2048, 2), (2048, 1)]

/-- The block lengths and distances of the 78 stages over 4096 keys. -/
def sched12 : List (ℕ × ℕ) :=
  [(2, 1), (4, 2), (4, 1), (8, 4), (8, 2), (8, 1), (16, 8), (16, 4),
   (16, 2), (16, 1), (32, 16), (32, 8), (32, 4), (32, 2), (32, 1), (64, 32),
   (64, 16), (64, 8), (64, 4), (64, 2), (64, 1), (128, 64), (128, 32), (128, 16),
   (128, 8), (128, 4), (128, 2), (128, 1), (256, 128), (256, 64), (256, 32), (256, 16),
   (256, 8), (256, 4), (256, 2), (256, 1), (512, 256), (512, 128), (512, 64), (512, 32),
   (512, 16), (512, 8), (512, 4), (512, 2), (512, 1), (1024, 512), (1024, 256), (1024, 128),
   (1024, 64), (1024, 32), (1024, 16), (1024, 8), (1024, 4), (1024, 2), (1024, 1), (2048, 1024),
   (2048, 512), (2048, 256), (2048, 128), (2048, 64), (2048, 32), (2048, 16), (2048, 8), (2048, 4),
   (2048, 2), (2048, 1), (4096, 2048), (4096, 1024), (4096, 512), (4096, 256), (4096, 128), (4096, 64),
   (4096, 32), (4096, 16), (4096, 8), (4096, 4), (4096, 2), (4096, 1)]

end TopK
-- ==== Proof.Pay.lean ====
/- The scores each launch stores, as the tail of the printed body applied to the chain of stages run on
   the initial keys. -/
module

public import proofs.«01_k».proof.Proof.Gen.KernelIdeal.Frame
public import proofs.«01_k».proof.Proof.Stage
public import Idealize.ShloMosaic.Lib.Tactic

@[expose] public section

set_option maxRecDepth 100000

noncomputable section

namespace TopK

open Idealize.ShloMosaic Cert.KernelIdeal Cert.KernelIdeal.Gen

variable {F : FTy → Type} [FloatOps F] [Named F]

/-- The sorted keys negated back, turned into one block of probabilities. -/
def softOf (x : FVec F S256x2048 .f32) : FVec F S1x256x2048 .f32 :=
  have s : FVec F S256x2048 .f32 := subf (broadcast S256x2048 (Scalar.ofBits .f32 0x00000000#32)) x
  have e : FVec F S256x2048 .f32 := exp (subf s (broadcastTo S256x2048 (extractStridedSlice S256x1 ![0, 0] s slices_S256x2048_o0_0_S256x1) broadcasts_S256x1_S256x2048))
  shapeCast S1x256x2048 (divf e (broadcastTo S256x2048 (shapeCast S256x1 (multiReduction .add [1] S256 e 0x00000000#32 reduces_S256x2048_S256 (.inl rfl) rfl) shapeCasts_S256_S256x1) broadcasts_S256x1_S256x2048)) shapeCasts_S256x2048_S1x256x2048

theorem pay0 (c : Dev nD) (i : grid0.Coords) (arg2) (harg2) (arg3) (harg3) (x0) (x1) :
    kernelRun0_A.sl.r_98 (F := F) c i arg2 harg2 arg3 harg3 x0 x1 =
      softOf (keyRun 2048 kernelRun0_A.sl.v13 sched11 (kernelRun0_A.sl.r (F := F) c i arg2 harg2 arg3 harg3 x0 x1)) := by
  sl_kernel_rfl

theorem pay1 (c : Dev nD) (i : grid1.Coords) (arg2) (harg2) (arg3) (harg3) (x0) (x1) :
    k1_pay423 (F := F) kernelRun1_A.sl.v13 (k1_pay353 kernelRun1_A.sl.v13)
      (kernelRun1_A.sl.r_123 c i arg2 harg2 arg3 harg3 x0 x1) (kernelRun1_A.sl.r_125 c i arg2 harg2 arg3 harg3 x0 x1)
      (k1_pay417 kernelRun1_A.sl.v13 (k1_pay353 kernelRun1_A.sl.v13)) kernelRun1_A.sl.cst_254 =
      softOf (extractStridedSlice S256x2048 ![0, 0]
        (keyRun 4096 kernelRun1_A.sl.v13 sched12 (kernelRun1_A.sl.r (F := F) c i arg2 harg2 arg3 harg3 x0 x1)) slices_S256x4096_o0_0_S256x2048) := by
  sl_kernel_rfl

end TopK
-- ==== Proof.Net.lean ====
/- The chain of stages reads, row by row, as the library's bitonic network; a full schedule therefore
   leaves every row ascending and a rearrangement of what it was. -/
module

public import proofs.«01_k».proof.Proof.Stage
public import Idealize.ShloMosaic.Lib.SortNet.Sorts
public import Idealize.ShloMosaic.Lib.Pointwise
public import Idealize.ShloMosaic.Lib.Pipeline.Value

@[expose] public section

set_option maxRecDepth 16384

noncomputable section

namespace TopK

open Idealize.ShloMosaic Idealize.ShloMosaic.SortNet

theorem dnOf_apply {α : Type} (n j : ℕ) (h : j ≤ n) (x : (Sh n).Idx → α) (r : Fin 256) (q : Fin n) (hq : q.val + j < n) :
    dnOf n j h x (ix2 r q) = x (ix2 r ⟨q.val + j, hq⟩) := by
  unfold dnOf
  have hq' : q.val < n - j := by omega
  refine (concatenate_pair_apply_left (s₁ := Sh (n - j)) (s₂ := Sh j) (t := Sh n) 1 _ _ _ (ix2 r q) rfl (ix2 r ⟨q.val, hq'⟩)
    (fun b => by match b with | ⟨0, _⟩ => rfl | ⟨1, _⟩ => rfl)).trans ?_
  exact extractStridedSlice_apply _ _ _ _ _ (fun a => by
    match a with
    | ⟨0, _⟩ => exact (Nat.zero_add _).symm
    | ⟨1, _⟩ => exact Nat.add_comm _ _)

theorem upOf_apply {α : Type} (n j : ℕ) (h : j ≤ n) (x : (Sh n).Idx → α) (r : Fin 256) (q : Fin n) (hq : j ≤ q.val) :
    upOf n j h x (ix2 r q) = x (ix2 r ⟨q.val - j, by omega⟩) := by
  unfold upOf
  have hq' : q.val - j < n - j := by omega
  refine (concatenate_pair_apply_right (s₁ := Sh j) (s₂ := Sh (n - j)) (t := Sh n) 1 _ _ _ (ix2 r q) rfl rfl (ix2 r ⟨q.val - j, hq'⟩)
    (fun b hb => by
      match b, hb with
      | ⟨0, _⟩, _ => rfl
      | ⟨1, _⟩, hb => exact absurd rfl hb)
    (show q.val - j + j = q.val by omega)).trans ?_
  exact extractStridedSlice_apply _ _ _ _ _ (fun a => by
    match a with
    | ⟨0, _⟩ => exact (Nat.zero_add _).symm
    | ⟨1, _⟩ => exact (Nat.zero_add _).symm)

/-- The columns as words: each position holds its own place along the row. -/
def IsCols (n : ℕ) (cols : IVec (Sh n) 32) : Prop := ∀ (r : Fin 256) (q : Fin n), cols (ix2 r q) = BitVec.ofNat 32 q.val

theorem word_and_eq_zero (q m : ℕ) (hq : q < 2 ^ 32) :
    (IntOp.cmpi .eq (IntOp.andi (BitVec.ofNat 32 q) (BitVec.ofNat 32 m)) 0#32) = BitVec.ofBool (decide (q &&& m = 0)) := by
  unfold IntOp.cmpi IntOp.andi
  congr 1
  show (BitVec.ofNat 32 q &&& BitVec.ofNat 32 m == 0#32) = decide (q &&& m = 0)
  rw [← BitVec.ofNat_and]
  have hlt : q &&& m < 2 ^ 32 := lt_of_le_of_lt Nat.and_le_left hq
  rw [Bool.eq_iff_iff]
  simp only [beq_iff_eq, decide_eq_true_eq]
  constructor
  · intro h
    have := congrArg BitVec.toNat h
    rw [BitVec.toNat_ofNat, Nat.mod_eq_of_lt hlt] at this
    exact this
  · intro h; rw [h]

theorem clear_apply (n m : ℕ) (hn : n ≤ 4096) (cols : IVec (Sh n) 32) (hc : IsCols n cols) (r : Fin 256) (q : Fin n) :
    clear n m cols (ix2 r q) = BitVec.ofBool (decide (q.val &&& m = 0)) := by
  show IntOp.cmpi .eq (IntOp.andi (cols (ix2 r q)) (BitVec.ofNat 32 m)) 0#32 = _
  rw [hc r q]
  exact word_and_eq_zero _ _ (by have := q.isLt; omega)

theorem wantMin_apply (n k j : ℕ) (hn : n ≤ 4096) (cols : IVec (Sh n) 32) (hc : IsCols n cols) (r : Fin 256) (q : Fin n) :
    wantMin n k j cols (ix2 r q) = BitVec.ofBool (decide (q.val &&& j = 0) == decide (q.val &&& k = 0)) := by
  show IntOp.xori (IntOp.xori (clear n j cols (ix2 r q)) (clear n k cols (ix2 r q))) 1#1 = _
  rw [clear_apply n j hn cols hc, clear_apply n k hn cols hc]
  generalize decide (q.val &&& j = 0) = a
  generalize decide (q.val &&& k = 0) = b
  cases a <;> cases b <;> rfl

theorem select_ofBool {α : Type} (b : Bool) (x y : α) : Scalar.select (BitVec.ofBool b) x y = if b then x else y := by
  cases b <;> rfl

theorem pairOf_apply {α : Type} (p s : ℕ) (hs : s < p) (hn : 2 ^ p ≤ 4096) (h : 2 ^ s ≤ 2 ^ p) (cols : IVec (Sh (2 ^ p)) 32) (hc : IsCols (2 ^ p) cols)
    (x : (Sh (2 ^ p)).Idx → α) (r : Fin 256) (q : Fin (2 ^ p)) :
    pairOf (2 ^ p) (2 ^ s) h cols x (ix2 r q) = x (ix2 r (partner p s q)) := by
  show Scalar.select (clear (2 ^ p) (2 ^ s) cols (ix2 r q)) (dnOf (2 ^ p) (2 ^ s) h x (ix2 r q)) (upOf (2 ^ p) (2 ^ s) h x (ix2 r q)) = _
  rw [clear_apply _ _ hn cols hc, select_ofBool]
  by_cases hq : q.val &&& 2 ^ s = 0
  · rw [decide_eq_true hq, if_pos rfl]
    have e := partner_val_of_clear hs q hq
    rw [dnOf_apply _ _ _ _ _ _ (by rw [← e]; exact (partner p s q).isLt)]
    congr 2; exact Fin.ext e.symm
  · rw [decide_eq_false hq, if_neg (by decide)]
    have e := partner_val_of_set hs q hq
    rw [upOf_apply _ _ _ _ _ _ e.1]
    congr 2; exact Fin.ext e.2.symm

/-- One row of a block. -/
def rowOf {n : ℕ} (x : (Sh n).Idx → EReal) (r : Fin 256) : Fin n → EReal := fun q => x (ix2 r q)

/-- Where a stage of the block length `2 ^ (l + 1)` keeps the greater key first. -/
def winner (p l : ℕ) : Fin (2 ^ p) → Bool := fun i => (decide (i.val &&& 2 ^ (l + 1) = 0)) == false

theorem bit_partner (p s l : ℕ) (hs : s < p) (hsl : s ≤ l) (q : Fin (2 ^ p)) :
    (partner p s q).val &&& 2 ^ (l + 1) = q.val &&& 2 ^ (l + 1) := by
  rw [partner_val hs, Nat.and_xor_distrib_right]
  have : 2 ^ s &&& 2 ^ (l + 1) = 0 := by
    apply Nat.eq_of_testBit_eq
    intro t
    rw [Nat.testBit_and, Nat.testBit_two_pow, Nat.testBit_two_pow, Nat.zero_testBit]
    by_cases h : s = t
    · subst h; simp; omega
    · simp [h]
  rw [this, Nat.xor_zero]

theorem keyStep_row (p s l : ℕ) (hs : s < p) (hsl : s ≤ l) (hn : 2 ^ p ≤ 4096) (cols : IVec (Sh (2 ^ p)) 32) (hc : IsCols (2 ^ p) cols)
    (x : FVec Ideal (Sh (2 ^ p)) .f32) (r : Fin 256) :
    rowOf (keyStep (F := Ideal) (2 ^ p) cols (2 ^ (l + 1), 2 ^ s) x) r = Network.apply (stage p s (winner p l)) (rowOf x r) := by
  have hle : 2 ^ s ≤ 2 ^ p := Nat.pow_le_pow_right (by decide) hs.le
  funext q
  have hk : rowOf (keyStep (F := Ideal) (2 ^ p) cols (2 ^ (l + 1), 2 ^ s) x) r q
      = if decide (q.val &&& 2 ^ s = 0) == decide (q.val &&& 2 ^ (l + 1) = 0) then min (rowOf x r q) (rowOf x r (partner p s q))
        else max (rowOf x r q) (rowOf x r (partner p s q)) := by
    unfold keyStep rowOf
    rw [dif_pos hle]
    show Scalar.select (wantMin (2 ^ p) (2 ^ (l + 1)) (2 ^ s) cols (ix2 r q)) (min (x (ix2 r q)) (pairOf (2 ^ p) (2 ^ s) hle cols x (ix2 r q)))
      (max (x (ix2 r q)) (pairOf (2 ^ p) (2 ^ s) hle cols x (ix2 r q))) = _
    rw [wantMin_apply _ _ _ hn cols hc, select_ofBool, pairOf_apply p s hs hn hle cols hc]
  rw [hk]
  by_cases hq : q.val &&& 2 ^ s = 0
  · rw [(apply_stage hs (winner p l) (rowOf x r) q hq).1]
    unfold winner
    by_cases hl : q.val &&& 2 ^ (l + 1) = 0 <;> simp [hq, hl]
  · have hq' := partner_and_of_set hs q hq
    have h2 := (apply_stage hs (winner p l) (rowOf x r) (partner p s q) hq').2
    rw [partner_partner hs] at h2
    rw [h2]
    unfold winner
    rw [bit_partner p s l hs hsl]
    by_cases hl : q.val &&& 2 ^ (l + 1) = 0
    · simp [hq, hl, max_comm]
    · simp [hq, hl, min_comm]

/-- The levels and distances, as exponents, in the order of the network. -/
def pairs (p : ℕ) : List (ℕ × ℕ) := (List.range p).flatMap fun l => (List.range (l + 1)).reverse.map fun s => (l, s)

theorem sortNet_eq (p : ℕ) : sortNet p false = (pairs p).flatMap fun ls => stage p ls.2 (winner p ls.1) := by
  unfold sortNet pairs
  rw [List.flatMap_assoc]
  congr 1; funext l
  rw [List.flatMap_map]
  rfl

theorem keyRun_row (p : ℕ) (hn : 2 ^ p ≤ 4096) (cols : IVec (Sh (2 ^ p)) 32) (hc : IsCols (2 ^ p) cols) (r : Fin 256) :
    ∀ (L : List (ℕ × ℕ)), (∀ ls ∈ L, ls.2 < p ∧ ls.2 ≤ ls.1) → ∀ (x : FVec Ideal (Sh (2 ^ p)) .f32),
    rowOf (keyRun (F := Ideal) (2 ^ p) cols (L.map fun ls => (2 ^ (ls.1 + 1), 2 ^ ls.2)) x) r
      = Network.apply (L.flatMap fun ls => stage p ls.2 (winner p ls.1)) (rowOf x r) := by
  intro L
  induction L with
  | nil => intro _ x; rfl
  | cons a L ih =>
    intro h x
    rw [List.map_cons, List.flatMap_cons, Network.apply_append]
    have ha := h a List.mem_cons_self
    rw [← keyStep_row p a.2 a.1 ha.1 ha.2 hn cols hc x r]
    exact ih (fun ls hls => h ls (List.mem_cons_of_mem _ hls)) _

theorem pairs_ok (p : ℕ) : ∀ ls ∈ pairs p, ls.2 < p ∧ ls.2 ≤ ls.1 := by
  intro ls h
  unfold pairs at h
  simp only [List.mem_flatMap, List.mem_map, List.mem_reverse, List.mem_range] at h
  obtain ⟨l, hl, s, hs, rfl⟩ := h
  constructor <;> simp <;> omega

theorem sched11_eq : sched11 = (pairs 11).map fun ls => (2 ^ (ls.1 + 1), 2 ^ ls.2) := by decide +kernel

theorem sched12_eq : sched12 = (pairs 12).map fun ls => (2 ^ (ls.1 + 1), 2 ^ ls.2) := by decide +kernel

/-- The shorter launch's chain, row by row. -/
theorem keyRun11 (cols : IVec (Sh 2048) 32) (hc : IsCols 2048 cols) (x : FVec Ideal (Sh 2048) .f32) (r : Fin 256) :
    rowOf (keyRun (F := Ideal) 2048 cols sched11 x) r = Network.apply (sortNet 11 false) (rowOf (n := 2 ^ 11) x r) := by
  rw [sched11_eq, sortNet_eq]
  exact keyRun_row 11 (by decide) cols hc r (pairs 11) (pairs_ok 11) x

/-- The longer launch's chain, row by row. -/
theorem keyRun12 (cols : IVec (Sh 4096) 32) (hc : IsCols 4096 cols) (x : FVec Ideal (Sh 4096) .f32) (r : Fin 256) :
    rowOf (keyRun (F := Ideal) 4096 cols sched12 x) r = Network.apply (sortNet 12 false) (rowOf (n := 2 ^ 12) x r) := by
  rw [sched12_eq, sortNet_eq]
  exact keyRun_row 12 (by decide) cols hc r (pairs 12) (pairs_ok 12) x

end TopK
-- ==== Proof.Tail.lean ====
/-
  What one block computes over the extended reals: the keys a row starts from, and the probabilities made of the
  sorted keys.
-/
module

public import proofs.«01_k».proof.Proof.Pay
public import proofs.«01_k».proof.Proof.Net
public import Idealize.ShloMosaic.Lib.Pointwise

@[expose] public section

set_option maxRecDepth 16384

noncomputable section

namespace TopK

open Idealize.ShloMosaic Cert.KernelIdeal Cert.KernelIdeal.Gen

/-- The probabilities of a sorted row of scores, against its first. -/
def soft (t : Fin 2048 → EReal) (j : Fin 2048) : EReal :=
  Ideal.div (Ideal.exp (t j - t 0)) (∑ l : Fin 2048, Ideal.exp (t l - t 0))

theorem softOf_apply (x : FVec Ideal S256x2048 .f32) (r : Fin 256) (j : Fin 2048) :
    softOf x (ix3 0 r j) = soft (fun l => 0 - x (ix2 r l)) j := by
  pointwise [softOf]
  rfl

/-- Signed comparison of two small words is the comparison of their numbers. -/
theorem sle_ofNat (a b : ℕ) (ha : a < 2 ^ 31) (hb : b < 2 ^ 31) :
    IntOp.cmpi .sle (BitVec.ofNat 32 a) (BitVec.ofNat 32 b) = BitVec.ofBool (decide (a ≤ b)) := by
  show BitVec.ofBool ((BitVec.ofNat 32 a).sle (BitVec.ofNat 32 b)) = _
  congr 1
  have h (n : ℕ) (hn : n < 2 ^ 31) : (BitVec.ofNat 32 n).toInt = n := by
    have e : (BitVec.ofNat 32 n).toNat = n := by rw [BitVec.toNat_ofNat, Nat.mod_eq_of_lt (by omega)]
    rw [BitVec.toInt_eq_toNat_of_lt (by rw [e]; omega), e]
  rw [BitVec.sle_eq_decide, decide_eq_decide, h a ha, h b hb]
  omega

/-- The stand-in for the hidden scores is greater than every finite score, whatever is added for its place. -/
theorem hidden (c : ℕ) :
    Named.named (F := Ideal) κ "big" (φ := .f32) 1900671690#32 +
        FloatOps.sitofp (F := Ideal) FTy.f32 (BitVec.ofNat 32 c) * Ideal.ofBits FTy.f32 1789226918#32 = (⊤ : EReal) := by
  have h1 : Named.named (F := Ideal) κ "big" (φ := .f32) 1900671690#32 = (⊤ : EReal) := rfl
  rw [h1]
  have h2 : FloatOps.sitofp (F := Ideal) FTy.f32 (BitVec.ofNat 32 c) = (((BitVec.ofNat 32 c).toInt : ℝ) : EReal) := rfl
  obtain ⟨r, h3⟩ : ∃ r : ℝ, Ideal.ofBits FTy.f32 1789226918#32 = (r : EReal) := by
    simp only [Ideal.ofBits, Ideal.ieee]
    rw [if_neg (by decide), if_neg (by decide)]
    exact ⟨_, rfl⟩
  rw [h2, h3, ← EReal.coe_mul]
  exact EReal.top_add_coe _

/-- The key a row starts from at a column: the score with its sign turned, or the greatest value where the column
    comes after the row. -/
def keyOf (pos c : ℕ) (s : EReal) : EReal := if c ≤ pos then 0 - s else ⊤

theorem key0_apply (i : grid0.Coords) (q : Vec Ideal S1x256x128 .f32) (k : Vec Ideal S1x2048x128 .f32) (r : Fin 256) (c : Fin 2048) :
    k0_pay2 i q k (ix2 r c) = keyOf (256 * (i 1).val + r.val) c.val
      (Ideal.div (∑ x : Fin 128, q (ix3 0 r x) * k (ix3 0 c x)) (Ideal.ofBits FTy.f32 1093993715#32)) := by
  pointwise [k0_pay2]
  have hi : (i 1).val < 8 := (i 1).isLt
  have hpos : IntOp.addi (Scalar.addi (0#32) (Scalar.muli (BitVec.ofNat 32 (i 1).val) 256#32)) (BitVec.ofNat 32 r.val)
      = BitVec.ofNat 32 (256 * (i 1).val + r.val) := by
    show 0#32 + BitVec.ofNat 32 (i 1).val * 256#32 + BitVec.ofNat 32 r.val = _
    rw [← BitVec.ofNat_mul, BitVec.zero_add, ← BitVec.ofNat_add, Nat.mul_comm]
  have := r.isLt
  have := c.isLt
  rw [hpos, hidden, sle_ofNat _ _ (by omega) (by omega), select_ofBool]
  simp only [keyOf, decide_eq_true_eq]

theorem key1_apply (i : grid1.Coords) (q : Vec Ideal S1x256x128 .f32) (k : Vec Ideal S1x4096x128 .f32) (r : Fin 256) (c : Fin 4096) :
    k1_pay2 i q k (ix2 r c) = keyOf (2048 + 256 * (i 1).val + r.val) c.val
      (Ideal.div (∑ x : Fin 128, q (ix3 0 r x) * k (ix3 0 c x)) (Ideal.ofBits FTy.f32 1093993715#32)) := by
  pointwise [k1_pay2]
  have hi : (i 1).val < 8 := (i 1).isLt
  have hpos : IntOp.addi (Scalar.addi (2048#32) (Scalar.muli (BitVec.ofNat 32 (i 1).val) 256#32)) (BitVec.ofNat 32 r.val)
      = BitVec.ofNat 32 (2048 + 256 * (i 1).val + r.val) := by
    show 2048#32 + BitVec.ofNat 32 (i 1).val * 256#32 + BitVec.ofNat 32 r.val = _
    rw [← BitVec.ofNat_mul, ← BitVec.ofNat_add, ← BitVec.ofNat_add, Nat.mul_comm]
  have := r.isLt
  have := c.isLt
  rw [hpos, hidden, sle_ofNat _ _ (by omega) (by omega), select_ofBool]
  simp only [keyOf, decide_eq_true_eq]

theorem cols0 : IsCols 2048 kernelRun0_A.sl.v13 := by
  intro r q
  pointwise [kernelRun0_A.sl.v13]

theorem cols1 : IsCols 4096 kernelRun1_A.sl.v13 := by
  intro r q
  pointwise [kernelRun1_A.sl.v13]

/-- The probabilities a row of keys gives, its keys sorted by the network: the shorter launch. -/
theorem row0 (x : FVec Ideal S256x2048 .f32) (r : Fin 256) (j : Fin 2048) :
    softOf (keyRun 2048 kernelRun0_A.sl.v13 sched11 x) (ix3 0 r j) =
      soft (fun l => 0 - SortNet.Network.apply (SortNet.sortNet 11 false) (rowOf (n := 2 ^ 11) x r) l) j := by
  rw [softOf_apply, ← keyRun11 _ cols0]
  rfl

/-- The probabilities a row of keys gives, its keys sorted by the network: the longer launch, of which the first half
    of the sorted row is kept. -/
theorem row1 (x : FVec Ideal S256x4096 .f32) (r : Fin 256) (j : Fin 2048) :
    softOf (extractStridedSlice S256x2048 ![0, 0] (keyRun 4096 kernelRun1_A.sl.v13 sched12 x)
      slices_S256x4096_o0_0_S256x2048) (ix3 0 r j) =
      soft (fun l => 0 - SortNet.Network.apply (SortNet.sortNet 12 false) (rowOf (n := 2 ^ 12) x r) (l.castLE (by decide))) j := by
  rw [softOf_apply, ← keyRun12 _ cols1]
  congr 1
  funext l
  congr 1
  exact extractStridedSlice_apply _ _ _ _ (ix2 r (l.castLE (by decide : 2048 ≤ 4096))) (fun a => by
    match a with
    | ⟨0, _⟩ => exact (Nat.zero_add _).symm
    | ⟨1, _⟩ => exact (Nat.zero_add _).symm)

end TopK

end
-- ==== Proof.Arr.lean ====
/-
  What each launch leaves in its array of probabilities, as a function of the projected queries and keys.
-/
module

public import proofs.«01_k».proof.Proof.Tail
public import Idealize.ShloMosaic.Lib.Pipeline.ValueKit

@[expose] public section

set_option maxRecDepth 16384

noncomputable section

namespace TopK

open Idealize.ShloMosaic Idealize.ShloMosaic.TcCoe Idealize.ShloMosaic.SortNet Cert.KernelIdeal Cert.KernelIdeal.Gen Idealize.SL.Sem

/-- The scaled score of a query row against a key row. -/
def scoreAt {nq : ℕ} (q : FVec Ideal ⟨3, ![2, nq, 128]⟩ .f32) (k : FVec Ideal ⟨3, ![2, 4096, 128]⟩ .f32)
    (b : Fin 2) (s : Fin nq) (c : Fin 4096) : EReal :=
  Ideal.div (∑ x : Fin 128, q (ix3 b s x) * k (ix3 b c x)) (Ideal.ofBits FTy.f32 1093993715#32)

/-- The shorter launch's probabilities of one row: rows 0 to 2047, whose first 2048 columns are sorted. -/
def rowLo (q : FVec Ideal ⟨3, ![2, 2048, 128]⟩ .f32) (k : FVec Ideal ⟨3, ![2, 4096, 128]⟩ .f32) (b : Fin 2) (s : Fin 2048)
    (j : Fin 2048) : EReal :=
  soft (fun l => 0 - Network.apply (sortNet 11 false)
    (fun c : Fin (2 ^ 11) => keyOf s.val c.val (scoreAt q k b s (c.castLE (by decide)))) l) j

/-- The longer launch's probabilities of one row: row 2048 + s, all of whose columns are sorted. -/
def rowHi (q : FVec Ideal ⟨3, ![2, 4096, 128]⟩ .f32) (k : FVec Ideal ⟨3, ![2, 4096, 128]⟩ .f32) (b : Fin 2) (s : Fin 2048)
    (j : Fin 2048) : EReal :=
  soft (fun l => 0 - Network.apply (sortNet 12 false)
    (fun c : Fin (2 ^ 12) => keyOf (2048 + s.val) c.val (scoreAt q k b ⟨2048 + s.val, by omega⟩ c)) (l.castLE (by decide))) j

variable (V : (c : Dev nD) → (b : Ref sig .tc) → Buf (Elt Ideal) ((c : Thread nD τ).loc b))

theorem index0 : ∀ t : Fin cfg0.N, win0_0.index t = ![(grid0.coords t 0).val, (grid0.coords t 1).val, 0] ∧
    win0_1.index t = ![(grid0.coords t 0).val, 0, 0] ∧
    win0_3.index t = ![(grid0.coords t 0).val, (grid0.coords t 1).val, 0] :=
  (by decide +kernel : ∀ t : Fin grid0.N, _)

theorem index1 : ∀ t : Fin cfg1.N, win1_0.index t = ![(grid1.coords t 0).val, (grid1.coords t 1).val + 8, 0] ∧
    win1_1.index t = ![(grid1.coords t 0).val, 0, 0] ∧
    win1_3.index t = ![(grid1.coords t 0).val, (grid1.coords t 1).val, 0] :=
  (by decide +kernel : ∀ t : Fin grid1.N, _)

/-- A load of a whole buffer through a slice that is the whole buffer reads the buffer. -/
theorem readAt_whole_slice {κ : Kind} {sp : Space} {s : Shape} {e : EltTy} (v : View sig κ sp s e) (f : v.ty.Contents (Elt Ideal))
    {off off' : Fin s.rank → ℕ} (h : off = fun _ => 0) (h' : off' = fun _ => 0) (inb : ∀ a, off a + s.size a ≤ s.size a)
    (inb' : ∀ a, off' a + s.size a ≤ s.size a) (h₀) :
    v.readAt (Elt Ideal) ((Rect.unit off s.size inb).withinL (Rect.unit (s := (Rect.unit off s.size inb).shape) off' s.size inb').toLoadRect h₀) f =
      v.read (Elt Ideal) f := by
  subst h; subst h'
  funext j
  refine congrArg (v.read (Elt Ideal) f) (funext fun a => Fin.ext ?_)
  show 0 + 0 * 1 + 1 * 1 * (j a).val = (j a).val
  omega

theorem start0 (c : Dev nD) (i : grid0.Coords) (arg2) (harg2) (arg3) (harg3) (x0) (x1) :
    kernelRun0_A.sl.r (F := Ideal) c i arg2 harg2 arg3 harg3 x0 x1 = k0_pay2 i x0 x1 := by
  have z : (![0, 0, 0] : Fin 3 → ℕ) = fun _ => 0 := by decide
  unfold kernelRun0_A.sl.r kernelRun0_A.sl.v1
  congr 1
  · refine (readAt_whole_slice (s := S1x256x128) _ _ z z _ _ _).trans ?_
    exact harg2.read_unread _
  · rw [View.readAt_eq_ld]
    refine (View.ld_unit_zero z _ _).trans ?_
    exact harg3.read_unread _

theorem rowLo_congr (q) (k) {b b' : Fin 2} {s s' j j' : Fin 2048} (hb : b = b') (hs : s = s') (hj : j = j') :
    rowLo q k b s j = rowLo q k b' s' j' := by subst hb; subst hs; subst hj; rfl

/-- One block of the shorter launch: the rows of its query block against the whole run of keys. -/
theorem point0 (c : Dev nD) (t : Fin cfg0.N) (r : Fin 256) (j : Fin 2048) (b : Fin 2) (s : Fin 2048)
    (hb : b.val = (grid0.coords t 0).val) (hs : s.val = 256 * (grid0.coords t 1).val + r.val) :
    softOf (keyRun 2048 kernelRun0_A.sl.v13 sched11 (k0_pay2 (grid0.coords t) (iblk0 V c 0 t) (iblk0 V c 1 t))) (ix3 0 r j) =
      rowLo (V c main_v15) (V c main_v14) b s j := by
  rw [row0]
  unfold rowLo
  refine congrArg (fun v : Fin (2 ^ 11) → EReal => soft (fun l => 0 - Network.apply (sortNet 11 false) v l) j)
    (funext fun k => ?_)
  show k0_pay2 (F := Ideal) _ _ _ (ix2 r k) = _
  rw [key0_apply]
  unfold scoreAt
  rw [hs]
  refine congrArg (fun z => keyOf _ _ (Ideal.div z _)) (Finset.sum_congr rfl fun x _ => congrArg₂ (· * ·) ?_ ?_)
  · blk_ext [iblk0, index0 t]
  · blk_ext [iblk0, index0 t]
    rfl

theorem arr0 (c : Dev nD) : (dat0 V c).arrAt 3 cfg0.N =
    (fun i : S2x2048x2048.Idx => rowLo (V c main_v15) (V c main_v14) (i 0) (i 1) (i 2)) := by
  refine (dat0 V c).arrAt_eq_of_covers 3 _ (by decide +kernel) fun t hf y => ?_
  blk_simp
  rw [after0_3]
  unfold outsAt0
  dsimp only
  unfold out0_A_3
  rw [View.read_writes_junk_eq_canon]
  unfold kernelRun0_A
  dsimp only
  rw [View.canon_unit_zero (by decide), pay0, start0]
  have hy : y = ix3 0 (y 1) (y 2) := by
    funext a
    match a with
    | ⟨0, _⟩ => exact Subsingleton.elim (α := Fin 1) _ _
    | ⟨1, _⟩ => rfl
    | ⟨2, _⟩ => rfl
  rw [hy]
  have h0 : (grid0.coords t 0).val < 2 := (grid0.coords t 0).isLt
  have h1 : (grid0.coords t 1).val < 8 := (grid0.coords t 1).isLt
  have h2 : (y 1).val < 256 := (y 1).isLt
  refine (point0 V c t (y 1) (y 2) ⟨(grid0.coords t 0).val, h0⟩ ⟨256 * (grid0.coords t 1).val + (y 1).val, by omega⟩ rfl rfl).trans ?_
  refine rowLo_congr _ _ (Fin.ext ?_) (Fin.ext ?_) (Fin.ext ?_)
  · blk_simp [index0 t]
    rfl
  · blk_simp [index0 t]
    exact congrArg (· + _) (Nat.mul_comm _ _)
  · blk_simp [index0 t]

theorem start1 (c : Dev nD) (i : grid1.Coords) (arg2) (harg2) (arg3) (harg3) (x0) (x1) :
    kernelRun1_A.sl.r (F := Ideal) c i arg2 harg2 arg3 harg3 x0 x1 = k1_pay2 i x0 x1 := by
  have z : (![0, 0, 0] : Fin 3 → ℕ) = fun _ => 0 := by decide
  unfold kernelRun1_A.sl.r kernelRun1_A.sl.v1
  congr 1
  · refine (readAt_whole_slice (s := S1x256x128) _ _ z z _ _ _).trans ?_
    exact harg2.read_unread _
  · rw [View.readAt_eq_ld]
    refine (View.ld_unit_zero z _ _).trans ?_
    exact harg3.read_unread _

theorem rowHi_congr (q) (k) {b b' : Fin 2} {s s' j j' : Fin 2048} (hb : b = b') (hs : s = s') (hj : j = j') :
    rowHi q k b s j = rowHi q k b' s' j' := by subst hb; subst hs; subst hj; rfl

/-- One block of the longer launch, whose query rows start at row 2048. -/
theorem point1 (c : Dev nD) (t : Fin cfg1.N) (r : Fin 256) (j : Fin 2048) (b : Fin 2) (s : Fin 2048)
    (hb : b.val = (grid1.coords t 0).val) (hs : s.val = 256 * (grid1.coords t 1).val + r.val) :
    softOf (extractStridedSlice S256x2048 ![0, 0]
      (keyRun 4096 kernelRun1_A.sl.v13 sched12 (k1_pay2 (grid1.coords t) (iblk1 V c 0 t) (iblk1 V c 1 t)))
      slices_S256x4096_o0_0_S256x2048) (ix3 0 r j) =
      rowHi (V c main_v0) (V c main_v14) b s j := by
  rw [row1]
  unfold rowHi
  refine congrArg (fun v : Fin (2 ^ 12) → EReal => soft (fun l => 0 - Network.apply (sortNet 12 false) v (l.castLE (by decide))) j)
    (funext fun k => ?_)
  show k1_pay2 (F := Ideal) _ _ _ (ix2 r k) = _
  rw [key1_apply]
  unfold scoreAt
  have hs' : 2048 + s.val = 2048 + 256 * (grid1.coords t 1).val + r.val := by omega
  rw [← hs']
  refine congrArg (fun z => keyOf _ _ (Ideal.div z _)) (Finset.sum_congr rfl fun x _ => congrArg₂ (· * ·) ?_ ?_)
  · blk_ext [iblk1, index1 t]
  · blk_ext [iblk1, index1 t]

theorem arr1 (c : Dev nD) : (dat1 V c).arrAt 3 cfg1.N =
    (fun i : S2x2048x2048.Idx => rowHi (V c main_v0) (V c main_v14) (i 0) (i 1) (i 2)) := by
  refine (dat1 V c).arrAt_eq_of_covers 3 _ (by decide +kernel) fun t hf y => ?_
  blk_simp
  rw [after1_3]
  unfold outsAt1
  dsimp only
  unfold out1_A_3
  rw [View.read_writes_junk_eq_canon]
  unfold kernelRun1_A
  dsimp only
  rw [View.canon_unit_zero (by decide), pay1, start1]
  have hy : y = ix3 0 (y 1) (y 2) := by
    funext a
    match a with
    | ⟨0, _⟩ => exact Subsingleton.elim (α := Fin 1) _ _
    | ⟨1, _⟩ => rfl
    | ⟨2, _⟩ => rfl
  rw [hy]
  have h0 : (grid1.coords t 0).val < 2 := (grid1.coords t 0).isLt
  have h1 : (grid1.coords t 1).val < 8 := (grid1.coords t 1).isLt
  have h2 : (y 1).val < 256 := (y 1).isLt
  refine (point1 V c t (y 1) (y 2) ⟨(grid1.coords t 0).val, h0⟩ ⟨256 * (grid1.coords t 1).val + (y 1).val, by omega⟩ rfl rfl).trans ?_
  refine rowHi_congr _ _ (Fin.ext ?_) (Fin.ext ?_) (Fin.ext ?_)
  · blk_simp [index1 t]
    rfl
  · blk_simp [index1 t]
    exact congrArg (· + _) (Nat.mul_comm _ _)
  · blk_simp [index1 t]

end TopK

end
-- ==== Proof.PayPos.lean ====
/- The positions each launch stores: the chain of stages run on the columns beside the initial keys. -/
module

public import proofs.«01_k».proof.Proof.Gen.KernelIdeal.Frame
public import proofs.«01_k».proof.Proof.Stage
public import Idealize.ShloMosaic.Lib.Tactic

@[expose] public section

set_option maxRecDepth 100000

noncomputable section

namespace TopK

open Idealize.ShloMosaic Cert.KernelIdeal Cert.KernelIdeal.Gen

variable {F : FTy → Type} [FloatOps F] [Named F]

theorem pos0 (c : Dev nD) (i : grid0.Coords) (arg2) (harg2) (arg3) (harg3) (x0) (x1) :
    k0_pay1 (kernelRun0_A.sl.r_97 (F := F) c i arg2 harg2 arg3 harg3 x0 x1) =
      shapeCast S1x256x2048 (posRun 2048 kernelRun0_A.sl.v13 sched11 (kernelRun0_A.sl.r (F := F) c i arg2 harg2 arg3 harg3 x0 x1)
        kernelRun0_A.sl.v13) shapeCasts_S256x2048_S1x256x2048 := by
  sl_kernel_rfl

theorem pos1 (c : Dev nD) (i : grid1.Coords) (arg2) (harg2) (arg3) (harg3) (x0) (x1) :
    k1_pay1 (kernelRun1_A.sl.r_127 (F := F) c i arg2 harg2 arg3 harg3 x0 x1) =
      shapeCast S1x256x2048 (extractStridedSlice S256x2048 ![0, 0]
        (posRun 4096 kernelRun1_A.sl.v13 sched12 (kernelRun1_A.sl.r (F := F) c i arg2 harg2 arg3 harg3 x0 x1) kernelRun1_A.sl.v13)
        slices_S256x4096_o0_0_S256x2048) shapeCasts_S256x2048_S1x256x2048 := by
  sl_kernel_rfl

end TopK
-- ==== Proof.Rank.lean ====
/-
  Order facts of one row: a row sorted by a stable sort, greatest first, and the same row's negated keys sorted
  ascending by the network give the same entries at the leading places.
-/
module

public import proofs.«01_k».proof.Proof.Stage
public import Idealize.ShloMosaic.Lib.SortNet.Sorts
public import Idealize.ShloMosaic.Lib.SortFacts
public import Idealize.ShloMosaic.PureOps.Ideal.Laws

@[expose] public section

noncomputable section

namespace TopK

open Idealize.ShloMosaic Idealize.ShloMosaic.SortNet

/-- The places of a row of extended reals, greatest first, as the host's sort finds them. -/
abbrev places {n : ℕ} (w : Fin n → EReal) (j : Fin n) : Fin n :=
  sortedFrom (fun k k' => FloatOps.cmpfTotal (F := Ideal) (φ := .f32) .gt (w k) (w k') == 1#1) j

/-- The host's comparison is the order of the extended reals. -/
theorem before_iff (a b : EReal) :
    (FloatOps.cmpfTotal (F := Ideal) (φ := .f32) .gt a b == 1#1) = decide (b < a) := by
  rw [Ideal.cmpfTotal_def]
  show (BitVec.ofBool (decide (b < a)) == 1#1) = decide (b < a)
  by_cases h : b < a <;> simp [h]

/-- The row in sorted order is descending. -/
theorem places_antitone {n : ℕ} (w : Fin n → EReal) : Antitone fun j => w (places w j) := by
  intro i j hij
  rcases hij.lt_or_eq with h | rfl
  · have := sortedFrom_noInversion
      (fun k k' => FloatOps.cmpfTotal (F := Ideal) (φ := .f32) .gt (w k) (w k') == 1#1)
      (fun k k' => FloatOps.cmpfTotal (F := Ideal) (φ := .f32) .gt (w k) (w k') == 1#1) ?_ ?_ ?_ i j h
    · rw [before_iff, decide_eq_false_iff_not, not_lt] at this
      exact this
    · intro a b hab
      rw [before_iff, decide_eq_true_eq] at hab
      rw [before_iff, decide_eq_false_iff_not, not_lt]; exact hab.le
    · exact fun _ _ h => h
    · intro a b c hab hbc
      rw [before_iff, decide_eq_false_iff_not, not_lt] at hab hbc ⊢
      exact hab.trans hbc
  · exact le_rfl

/-- The row in sorted order is a rearrangement of the row. -/
theorem places_perm {n : ℕ} (w : Fin n → EReal) :
    (List.ofFn fun j => w (places w j)).Perm (List.ofFn w) := by
  have hb : Function.Bijective (places w) := ⟨sortedFrom_injective _, sortedFrom_surjective _⟩
  exact Equiv.Perm.ofFn_comp_perm (Equiv.ofBijective _ hb) w

/-- Subtraction from zero turns the order round. -/
theorem zero_sub_antitone : Antitone fun x : EReal => 0 - x := by
  intro a b h
  simp only [zero_sub]
  exact EReal.neg_le_neg_iff.mpr h

/-- The leading entries of a row sorted greatest first are the negatives of the network's ascending keys, when the keys
    are the negatives of the row's first entries and the row's other entries are all least. -/
theorem top_eq {p n : ℕ} (hn : 2 ^ p ≤ n) (w : Fin n → EReal) (v : Fin (2 ^ p) → EReal)
    (hv : ∀ c : Fin (2 ^ p), v c = 0 - w (c.castLE hn)) (hbot : ∀ c : Fin n, 2 ^ p ≤ c.val → w c = ⊥)
    (j : Fin (2 ^ p)) :
    0 - Network.apply (sortNet p false) v j = w (places w (j.castLE hn)) := by
  obtain ⟨d, rfl⟩ := Nat.exists_eq_add_of_le hn
  obtain ⟨σ, hσ⟩ := Network.exists_perm (sortNet p false) v
  set u := Network.apply (sortNet p false) v with hu
  have hmono : Monotone u := sortNet_apply_monotone p v
  have hdesc : Antitone fun j => 0 - u j := fun a b h => zero_sub_antitone (hmono h)
  -- both lists are descending and hold the same entries
  have hw : List.ofFn w = List.ofFn (fun c : Fin (2 ^ p) => w (c.castAdd d)) ++ List.replicate d ⊥ := by
    rw [List.ofFn_add]
    congr 1
    rw [← List.ofFn_const]
    congr 1
    funext c
    exact hbot _ (by simp)
  have hperm : (List.ofFn (fun j => 0 - u j) ++ List.replicate d (⊥ : EReal)).Perm (List.ofFn w) := by
    rw [hw]
    refine List.Perm.append_right _ ?_
    have : (fun j => 0 - u j) = (fun c : Fin (2 ^ p) => w (c.castAdd d)) ∘ σ := by
      funext j
      rw [hσ]
      simp only [Function.comp, hv, zero_sub, neg_neg]
      rfl
    rw [this]
    exact Equiv.Perm.ofFn_comp_perm σ _
  have hs1 : (List.ofFn (fun j => 0 - u j) ++ List.replicate d (⊥ : EReal)).Pairwise (fun a b => b ≤ a) := by
    refine List.pairwise_append.mpr ⟨?_, ?_, ?_⟩
    · rw [List.pairwise_ofFn]; exact fun i j h => hdesc h.le
    · exact List.pairwise_replicate.mpr (Or.inr le_rfl)
    · intro a _ b hb
      rw [List.eq_of_mem_replicate hb]; exact bot_le
  have hs2 : (List.ofFn fun j => w (places w j)).Pairwise (fun a b => b ≤ a) := by
    rw [List.pairwise_ofFn]; exact fun i j h => places_antitone w h.le
  have heq := List.Perm.eq_of_pairwise (fun a b _ _ hab hba => le_antisymm hba hab) hs1 hs2
    (hperm.trans (places_perm w).symm)
  have hj := congrArg (fun l => l[j.val]?) heq
  rw [List.getElem?_append_left (by simp), List.getElem?_ofFn, List.getElem?_ofFn] at hj
  rw [dif_pos j.isLt, dif_pos (by have := j.isLt; omega)] at hj
  exact Option.some.inj hj

end TopK

end
-- ==== Proof.Place.lean ====
/-
  The positions the chain of stages carries: after every stage a row's positions say where its keys come from, whether or
  not keys are equal. With the keys sorted, a position whose key differs from its neighbours' is therefore known.
-/
module

public import proofs.«01_k».proof.Proof.Net
public import proofs.«01_k».proof.Proof.Rank

@[expose] public section

set_option maxRecDepth 16384

noncomputable section

namespace TopK

open Idealize.ShloMosaic Idealize.ShloMosaic.SortNet

/-- A row's positions `p` name where its keys `x` stand in the row `v`. -/
def Tracks {n : ℕ} (v : Fin n → EReal) (x : (Sh n).Idx → EReal) (p : IVec (Sh n) 32) (r : Fin 256) : Prop :=
  ∀ q : Fin n, ∃ c : Fin n, p (ix2 r q) = BitVec.ofNat 32 c.val ∧ x (ix2 r q) = v c

/-- One stage keeps the positions true of the keys: a position moves exactly when its key does. -/
theorem step_tracks (p s l : ℕ) (hs : s < p) (hn : 2 ^ p ≤ 4096) (cols : IVec (Sh (2 ^ p)) 32) (hc : IsCols (2 ^ p) cols)
    (v : Fin (2 ^ p) → EReal) (x : FVec Ideal (Sh (2 ^ p)) .f32) (y : IVec (Sh (2 ^ p)) 32) (r : Fin 256) (h : Tracks v x y r) :
    Tracks v (keyStep (F := Ideal) (2 ^ p) cols (2 ^ (l + 1), 2 ^ s) x) (posStep (F := Ideal) (2 ^ p) cols (2 ^ (l + 1), 2 ^ s) x y) r := by
  have hle : 2 ^ s ≤ 2 ^ p := Nat.pow_le_pow_right (by decide) hs.le
  intro q
  obtain ⟨w, hw⟩ : ∃ w : Bool, wantMin (2 ^ p) (2 ^ (l + 1)) (2 ^ s) cols (ix2 r q) = BitVec.ofBool w :=
    ⟨_, wantMin_apply _ _ _ hn cols hc r q⟩
  have hk : keyStep (F := Ideal) (2 ^ p) cols (2 ^ (l + 1), 2 ^ s) x (ix2 r q)
      = if w then min (x (ix2 r q)) (x (ix2 r (partner p s q))) else max (x (ix2 r q)) (x (ix2 r (partner p s q))) := by
    unfold keyStep
    rw [dif_pos hle]
    show Scalar.select (wantMin (2 ^ p) (2 ^ (l + 1)) (2 ^ s) cols (ix2 r q)) (min (x (ix2 r q)) (pairOf (2 ^ p) (2 ^ s) hle cols x (ix2 r q)))
      (max (x (ix2 r q)) (pairOf (2 ^ p) (2 ^ s) hle cols x (ix2 r q))) = _
    rw [hw, select_ofBool, pairOf_apply p s hs hn hle cols hc]
  have hp : posStep (F := Ideal) (2 ^ p) cols (2 ^ (l + 1), 2 ^ s) x y (ix2 r q)
      = if (decide (x (ix2 r q) ≤ x (ix2 r (partner p s q)))) ^^ w then y (ix2 r (partner p s q)) else y (ix2 r q) := by
    unfold posStep
    rw [dif_pos hle]
    show Scalar.select (IntOp.xori (BitVec.ofBool (decide (x (ix2 r q) ≤ pairOf (2 ^ p) (2 ^ s) hle cols x (ix2 r q))))
      (wantMin (2 ^ p) (2 ^ (l + 1)) (2 ^ s) cols (ix2 r q))) (pairOf (2 ^ p) (2 ^ s) hle cols y (ix2 r q)) (y (ix2 r q)) = _
    rw [hw, pairOf_apply p s hs hn hle cols hc, pairOf_apply p s hs hn hle cols hc]
    generalize decide (x (ix2 r q) ≤ x (ix2 r (partner p s q))) = a
    cases a <;> cases w <;> rfl
  obtain ⟨c, hc1, hc2⟩ := h q
  obtain ⟨d, hd1, hd2⟩ := h (partner p s q)
  rw [hk, hp]
  by_cases hle' : x (ix2 r q) ≤ x (ix2 r (partner p s q))
  · cases w
    · exact ⟨d, by simpa [hle'] using hd1, by simpa [hle'] using hd2⟩
    · exact ⟨c, by simpa [hle'] using hc1, by simpa [hle'] using hc2⟩
  · have hlt := (not_le.mp hle').le
    cases w
    · exact ⟨c, by simpa [hle'] using hc1, by simpa [hlt] using hc2⟩
    · exact ⟨d, by simpa [hle'] using hd1, by simpa [hlt] using hd2⟩

theorem run_tracks (p : ℕ) (hn : 2 ^ p ≤ 4096) (cols : IVec (Sh (2 ^ p)) 32) (hc : IsCols (2 ^ p) cols) (v : Fin (2 ^ p) → EReal) (r : Fin 256) :
    ∀ (L : List (ℕ × ℕ)), (∀ ls ∈ L, ls.2 < p ∧ ls.2 ≤ ls.1) → ∀ (x : FVec Ideal (Sh (2 ^ p)) .f32) (y : IVec (Sh (2 ^ p)) 32), Tracks v x y r →
    Tracks v (keyRun (F := Ideal) (2 ^ p) cols (L.map fun ls => (2 ^ (ls.1 + 1), 2 ^ ls.2)) x)
      (posRun (F := Ideal) (2 ^ p) cols (L.map fun ls => (2 ^ (ls.1 + 1), 2 ^ ls.2)) x y) r := by
  intro L
  induction L with
  | nil => intro _ x y h; exact h
  | cons a L ih =>
    intro h x y hxy
    have ha := h a List.mem_cons_self
    exact ih (fun ls hls => h ls (List.mem_cons_of_mem _ hls)) _ _ (step_tracks p a.2 a.1 ha.1 hn cols hc v x y r hxy)

theorem cols_tracks {n : ℕ} (cols : IVec (Sh n) 32) (hc : IsCols n cols) (x : (Sh n).Idx → EReal) (r : Fin 256) :
    Tracks (rowOf x r) x cols r := fun q => ⟨q, hc r q, rfl⟩

/-- Where the shorter launch's stored position points, against its sorted key. -/
theorem posRun11 (cols : IVec (Sh 2048) 32) (hc : IsCols 2048 cols) (x : FVec Ideal (Sh 2048) .f32) (r : Fin 256) (q : Fin (2 ^ 11)) :
    ∃ c : Fin (2 ^ 11), posRun (F := Ideal) 2048 cols sched11 x cols (ix2 r q) = BitVec.ofNat 32 c.val ∧
      Network.apply (sortNet 11 false) (rowOf (n := 2 ^ 11) x r) q = rowOf (n := 2 ^ 11) x r c := by
  rw [← keyRun11 cols hc x r, sched11_eq]
  exact run_tracks 11 (by decide) cols hc _ r (pairs 11) (pairs_ok 11) x cols (cols_tracks (n := 2 ^ 11) cols hc x r) q

/-- Where the longer launch's stored position points, against its sorted key. -/
theorem posRun12 (cols : IVec (Sh 4096) 32) (hc : IsCols 4096 cols) (x : FVec Ideal (Sh 4096) .f32) (r : Fin 256) (q : Fin (2 ^ 12)) :
    ∃ c : Fin (2 ^ 12), posRun (F := Ideal) 4096 cols sched12 x cols (ix2 r q) = BitVec.ofNat 32 c.val ∧
      Network.apply (sortNet 12 false) (rowOf (n := 2 ^ 12) x r) q = rowOf (n := 2 ^ 12) x r c := by
  rw [← keyRun12 cols hc x r, sched12_eq]
  exact run_tracks 12 (by decide) cols hc _ r (pairs 12) (pairs_ok 12) x cols (cols_tracks (n := 2 ^ 12) cols hc x r) q

/-- One stage's positions in a row depend on that row only. -/
theorem step_local (p s l : ℕ) (hs : s < p) (hn : 2 ^ p ≤ 4096) (cols : IVec (Sh (2 ^ p)) 32) (hc : IsCols (2 ^ p) cols)
    (x x' : FVec Ideal (Sh (2 ^ p)) .f32) (y y' : IVec (Sh (2 ^ p)) 32) (r r' : Fin 256) (hx : ∀ q, x (ix2 r q) = x' (ix2 r' q))
    (hy : ∀ q, y (ix2 r q) = y' (ix2 r' q)) (q : Fin (2 ^ p)) :
    posStep (F := Ideal) (2 ^ p) cols (2 ^ (l + 1), 2 ^ s) x y (ix2 r q) =
      posStep (F := Ideal) (2 ^ p) cols (2 ^ (l + 1), 2 ^ s) x' y' (ix2 r' q) := by
  have hle : 2 ^ s ≤ 2 ^ p := Nat.pow_le_pow_right (by decide) hs.le
  have e (x : FVec Ideal (Sh (2 ^ p)) .f32) (y : IVec (Sh (2 ^ p)) 32) (r : Fin 256) :
      posStep (F := Ideal) (2 ^ p) cols (2 ^ (l + 1), 2 ^ s) x y (ix2 r q) =
        Scalar.select (IntOp.xori (BitVec.ofBool (decide (x (ix2 r q) ≤ x (ix2 r (partner p s q)))))
          (BitVec.ofBool (decide (q.val &&& 2 ^ s = 0) == decide (q.val &&& 2 ^ (l + 1) = 0)))) (y (ix2 r (partner p s q))) (y (ix2 r q)) := by
    unfold posStep
    rw [dif_pos hle]
    show Scalar.select (IntOp.xori (BitVec.ofBool (decide (x (ix2 r q) ≤ pairOf (2 ^ p) (2 ^ s) hle cols x (ix2 r q))))
      (wantMin (2 ^ p) (2 ^ (l + 1)) (2 ^ s) cols (ix2 r q))) (pairOf (2 ^ p) (2 ^ s) hle cols y (ix2 r q)) (y (ix2 r q)) = _
    rw [wantMin_apply _ _ _ hn cols hc, pairOf_apply p s hs hn hle cols hc, pairOf_apply p s hs hn hle cols hc]
  rw [e, e]
  simp only [hx, hy]

theorem run_local (p : ℕ) (hn : 2 ^ p ≤ 4096) (cols : IVec (Sh (2 ^ p)) 32) (hc : IsCols (2 ^ p) cols) (r r' : Fin 256) :
    ∀ (L : List (ℕ × ℕ)), (∀ ls ∈ L, ls.2 < p ∧ ls.2 ≤ ls.1) → ∀ (x x' : FVec Ideal (Sh (2 ^ p)) .f32) (y y' : IVec (Sh (2 ^ p)) 32),
    (∀ q, x (ix2 r q) = x' (ix2 r' q)) → (∀ q, y (ix2 r q) = y' (ix2 r' q)) → ∀ q,
    posRun (F := Ideal) (2 ^ p) cols (L.map fun ls => (2 ^ (ls.1 + 1), 2 ^ ls.2)) x y (ix2 r q) =
      posRun (F := Ideal) (2 ^ p) cols (L.map fun ls => (2 ^ (ls.1 + 1), 2 ^ ls.2)) x' y' (ix2 r' q) := by
  intro L
  induction L with
  | nil => intro _ x x' y y' _ hy q; exact hy q
  | cons a L ih =>
    intro h x x' y y' hx hy
    have ha := h a List.mem_cons_self
    refine ih (fun ls hls => h ls (List.mem_cons_of_mem _ hls)) _ _ _ _ (fun q => ?_)
      (step_local p a.2 a.1 ha.1 hn cols hc x x' y y' r r' hx hy)
    have hrow : rowOf x r = rowOf x' r' := funext hx
    have h1 := congrFun (keyStep_row p a.2 a.1 ha.1 ha.2 hn cols hc x r) q
    have h2 := congrFun (keyStep_row p a.2 a.1 ha.1 ha.2 hn cols hc x' r') q
    rw [hrow] at h1
    exact h1.trans h2.symm

theorem posRun11_local (cols : IVec (Sh 2048) 32) (hc : IsCols 2048 cols) (x x' : FVec Ideal (Sh 2048) .f32) (r r' : Fin 256)
    (hx : ∀ q : Fin 2048, x (ix2 r q) = x' (ix2 r' q)) (q : Fin 2048) :
    posRun (F := Ideal) 2048 cols sched11 x cols (ix2 r q) = posRun (F := Ideal) 2048 cols sched11 x' cols (ix2 r' q) := by
  rw [sched11_eq]
  exact run_local 11 (by decide) cols hc r r' (pairs 11) (pairs_ok 11) x x' cols cols hx (fun q => (hc r q).trans (hc r' q).symm) q

theorem posRun12_local (cols : IVec (Sh 4096) 32) (hc : IsCols 4096 cols) (x x' : FVec Ideal (Sh 4096) .f32) (r r' : Fin 256)
    (hx : ∀ q : Fin 4096, x (ix2 r q) = x' (ix2 r' q)) (q : Fin 4096) :
    posRun (F := Ideal) 4096 cols sched12 x cols (ix2 r q) = posRun (F := Ideal) 4096 cols sched12 x' cols (ix2 r' q) := by
  rw [sched12_eq]
  exact run_local 12 (by decide) cols hc r r' (pairs 12) (pairs_ok 12) x x' cols cols hx (fun q => (hc r q).trans (hc r' q).symm) q

/-- Whether the entry a descending row has at place `j` is strictly below the one before it and strictly above the next. -/
def Apart {n : ℕ} (w : Fin n → EReal) (j : Fin n) : Prop :=
  (∀ i : Fin n, i.val + 1 = j.val → w (places w j) < w (places w i)) ∧
  (∀ i : Fin n, j.val + 1 = i.val → w (places w i) < w (places w j))

/-- An entry apart from its neighbours stands at one place only. -/
theorem places_unique {n : ℕ} (w : Fin n → EReal) (j c : Fin n) (hj : Apart w j) (hc : w c = w (places w j)) : places w j = c := by
  obtain ⟨k, rfl⟩ : ∃ k, places w k = c := sortedFrom_surjective _ c
  rcases lt_trichotomy k j with h | rfl | h
  · have hk : k.val < j.val := h
    have h1 := hj.1 ⟨j.val - 1, by omega⟩ (by show j.val - 1 + 1 = j.val; omega)
    have h2 : w (places w ⟨j.val - 1, by omega⟩) ≤ w (places w k) :=
      places_antitone w (show k.val ≤ j.val - 1 by omega)
    exact absurd hc (h1.trans_le h2).ne'
  · rfl
  · have hk : j.val < k.val := h
    have h1 := hj.2 ⟨j.val + 1, by omega⟩ rfl
    have h2 : w (places w k) ≤ w (places w ⟨j.val + 1, by omega⟩) :=
      places_antitone w (show j.val + 1 ≤ k.val by omega)
    exact absurd hc (h2.trans_lt h1).ne

/-- The position a launch stores is the reference's, where the entry is apart from its neighbours. -/
theorem place_eq {p n : ℕ} (hn : 2 ^ p ≤ n) (w : Fin n → EReal) (v : Fin (2 ^ p) → EReal)
    (hv : ∀ c : Fin (2 ^ p), v c = 0 - w (c.castLE hn)) (hbot : ∀ c : Fin n, 2 ^ p ≤ c.val → w c = ⊥)
    (j : Fin (2 ^ p)) (hj : Apart w (j.castLE hn)) (b : BitVec 32)
    (hb : ∃ c : Fin (2 ^ p), b = BitVec.ofNat 32 c.val ∧ Network.apply (sortNet p false) v j = v c) :
    b = BitVec.ofNat 32 (places w (j.castLE hn)).val := by
  obtain ⟨c, rfl, hc⟩ := hb
  have h := top_eq hn w v hv hbot j
  rw [hc, hv] at h
  simp only [zero_sub, neg_neg] at h
  rw [places_unique w _ _ hj h]
  rfl

end TopK

end
-- ==== Proof.ArrPos.lean ====
/-
  What each launch leaves in its array of positions, as a function of the projected queries and keys.
-/
module

public import proofs.«01_k».proof.Proof.Arr
public import proofs.«01_k».proof.Proof.PayPos
public import proofs.«01_k».proof.Proof.Place

@[expose] public section

set_option maxRecDepth 16384

noncomputable section

namespace TopK

open Idealize.ShloMosaic Idealize.ShloMosaic.TcCoe Idealize.ShloMosaic.SortNet Cert.KernelIdeal Cert.KernelIdeal.Gen Idealize.SL.Sem

/-- The keys of a row of the shorter launch. -/
def keysLo (q : FVec Ideal ⟨3, ![2, 2048, 128]⟩ .f32) (k : FVec Ideal ⟨3, ![2, 4096, 128]⟩ .f32) (b : Fin 2) (s : Fin 2048)
    (c : Fin 2048) : EReal := keyOf s.val c.val (scoreAt q k b s (c.castLE (by decide)))

/-- The keys of a row of the longer launch. -/
def keysHi (q : FVec Ideal ⟨3, ![2, 4096, 128]⟩ .f32) (k : FVec Ideal ⟨3, ![2, 4096, 128]⟩ .f32) (b : Fin 2) (s : Fin 2048)
    (c : Fin 4096) : EReal := keyOf (2048 + s.val) c.val (scoreAt q k b ⟨2048 + s.val, by omega⟩ c)

/-- The shorter launch's positions of one row. -/
def placeLo (q : FVec Ideal ⟨3, ![2, 2048, 128]⟩ .f32) (k : FVec Ideal ⟨3, ![2, 4096, 128]⟩ .f32) (b : Fin 2) (s : Fin 2048)
    (j : Fin 2048) : BitVec 32 :=
  posRun (F := Ideal) 2048 kernelRun0_A.sl.v13 sched11 (fun i => keysLo q k b s (i 1)) kernelRun0_A.sl.v13 (ix2 0 j)

/-- The longer launch's positions of one row. -/
def placeHi (q : FVec Ideal ⟨3, ![2, 4096, 128]⟩ .f32) (k : FVec Ideal ⟨3, ![2, 4096, 128]⟩ .f32) (b : Fin 2) (s : Fin 2048)
    (j : Fin 2048) : BitVec 32 :=
  posRun (F := Ideal) 4096 kernelRun1_A.sl.v13 sched12 (fun i => keysHi q k b s (i 1)) kernelRun1_A.sl.v13 (ix2 0 (j.castLE (by decide)))

theorem placeLo_congr (q) (k) {b b' : Fin 2} {s s' j j' : Fin 2048} (hb : b = b') (hs : s = s') (hj : j = j') :
    placeLo q k b s j = placeLo q k b' s' j' := by subst hb; subst hs; subst hj; rfl

theorem placeHi_congr (q) (k) {b b' : Fin 2} {s s' j j' : Fin 2048} (hb : b = b') (hs : s = s') (hj : j = j') :
    placeHi q k b s j = placeHi q k b' s' j' := by subst hb; subst hs; subst hj; rfl

variable (V : (c : Dev nD) → (b : Ref sig .tc) → Buf (Elt Ideal) ((c : Thread nD τ).loc b))

theorem index0_2 : ∀ t : Fin cfg0.N, win0_2.index t = ![(grid0.coords t 0).val, (grid0.coords t 1).val, 0] :=
  (by decide +kernel : ∀ t : Fin grid0.N, _)

theorem index1_2 : ∀ t : Fin cfg1.N, win1_2.index t = ![(grid1.coords t 0).val, (grid1.coords t 1).val, 0] :=
  (by decide +kernel : ∀ t : Fin grid1.N, _)

theorem block_apply (x : IVec S256x2048 32) (r : Fin 256) (j : Fin 2048) :
    shapeCast S1x256x2048 x shapeCasts_S256x2048_S1x256x2048 (ix3 0 r j) = x (ix2 r j) := by
  pointwise []

/-- One block of the shorter launch. -/
theorem place0 (c : Dev nD) (t : Fin cfg0.N) (r : Fin 256) (j : Fin 2048) (b : Fin 2) (s : Fin 2048)
    (hb : b.val = (grid0.coords t 0).val) (hs : s.val = 256 * (grid0.coords t 1).val + r.val) :
    shapeCast S1x256x2048 (posRun 2048 kernelRun0_A.sl.v13 sched11 (k0_pay2 (grid0.coords t) (iblk0 V c 0 t) (iblk0 V c 1 t))
      kernelRun0_A.sl.v13) shapeCasts_S256x2048_S1x256x2048 (ix3 0 r j) =
      placeLo (V c main_v15) (V c main_v14) b s j := by
  rw [block_apply]
  unfold placeLo
  refine posRun11_local _ cols0 _ _ _ _ (fun k => ?_) j
  show k0_pay2 (F := Ideal) _ _ _ (ix2 r k) = keysLo _ _ b s k
  rw [key0_apply]
  unfold keysLo scoreAt
  rw [hs]
  refine congrArg (fun z => keyOf _ _ (Ideal.div z _)) (Finset.sum_congr rfl fun x _ => congrArg₂ (· * ·) ?_ ?_)
  · blk_ext [iblk0, index0 t]
  · blk_ext [iblk0, index0 t]
    rfl

theorem arrPos0 (c : Dev nD) : (dat0 V c).arrAt 2 cfg0.N =
    (fun i : S2x2048x2048.Idx => placeLo (V c main_v15) (V c main_v14) (i 0) (i 1) (i 2)) := by
  refine (dat0 V c).arrAt_eq_of_covers 2 _ (by decide +kernel) fun t hf y => ?_
  blk_simp
  rw [after0_2]
  unfold outsAt0
  dsimp only
  unfold out0_A_2
  rw [View.read_writes_junk_eq_canon]
  unfold kernelRun0_A
  dsimp only
  rw [View.canon_unit_zero (by decide), pos0, start0]
  have hy : y = ix3 0 (y 1) (y 2) := by
    funext a
    match a with
    | ⟨0, _⟩ => exact Subsingleton.elim (α := Fin 1) _ _
    | ⟨1, _⟩ => rfl
    | ⟨2, _⟩ => rfl
  rw [hy]
  have h0 : (grid0.coords t 0).val < 2 := (grid0.coords t 0).isLt
  have h1 : (grid0.coords t 1).val < 8 := (grid0.coords t 1).isLt
  have h2 : (y 1).val < 256 := (y 1).isLt
  refine (place0 V c t (y 1) (y 2) ⟨(grid0.coords t 0).val, h0⟩ ⟨256 * (grid0.coords t 1).val + (y 1).val, by omega⟩ rfl rfl).trans ?_
  refine placeLo_congr _ _ (Fin.ext ?_) (Fin.ext ?_) (Fin.ext ?_)
  · blk_simp [index0_2 t]
    rfl
  · blk_simp [index0_2 t]
    exact congrArg (· + _) (Nat.mul_comm _ _)
  · blk_simp [index0_2 t]

theorem half_apply (x : IVec S256x4096 32) (r : Fin 256) (j : Fin 2048) :
    extractStridedSlice S256x2048 ![0, 0] x slices_S256x4096_o0_0_S256x2048 (ix2 r j) = x (ix2 r (j.castLE (by decide))) :=
  extractStridedSlice_apply _ _ _ _ (ix2 r (j.castLE (by decide : 2048 ≤ 4096))) (fun a => by
    match a with
    | ⟨0, _⟩ => exact (Nat.zero_add _).symm
    | ⟨1, _⟩ => exact (Nat.zero_add _).symm)

/-- One block of the longer launch, whose query rows start at row 2048. -/
theorem place1 (c : Dev nD) (t : Fin cfg1.N) (r : Fin 256) (j : Fin 2048) (b : Fin 2) (s : Fin 2048)
    (hb : b.val = (grid1.coords t 0).val) (hs : s.val = 256 * (grid1.coords t 1).val + r.val) :
    shapeCast S1x256x2048 (extractStridedSlice S256x2048 ![0, 0]
      (posRun 4096 kernelRun1_A.sl.v13 sched12 (k1_pay2 (grid1.coords t) (iblk1 V c 0 t) (iblk1 V c 1 t)) kernelRun1_A.sl.v13)
      slices_S256x4096_o0_0_S256x2048) shapeCasts_S256x2048_S1x256x2048 (ix3 0 r j) =
      placeHi (V c main_v0) (V c main_v14) b s j := by
  rw [block_apply, half_apply]
  unfold placeHi
  refine posRun12_local _ cols1 _ _ _ _ (fun k => ?_) _
  show k1_pay2 (F := Ideal) _ _ _ (ix2 r k) = keysHi _ _ b s k
  rw [key1_apply]
  unfold keysHi scoreAt
  have hs' : 2048 + s.val = 2048 + 256 * (grid1.coords t 1).val + r.val := by omega
  rw [← hs']
  refine congrArg (fun z => keyOf _ _ (Ideal.div z _)) (Finset.sum_congr rfl fun x _ => congrArg₂ (· * ·) ?_ ?_)
  · blk_ext [iblk1, index1 t]
  · blk_ext [iblk1, index1 t]

theorem arrPos1 (c : Dev nD) : (dat1 V c).arrAt 2 cfg1.N =
    (fun i : S2x2048x2048.Idx => placeHi (V c main_v0) (V c main_v14) (i 0) (i 1) (i 2)) := by
  refine (dat1 V c).arrAt_eq_of_covers 2 _ (by decide +kernel) fun t hf y => ?_
  blk_simp
  rw [after1_2]
  unfold outsAt1
  dsimp only
  unfold out1_A_2
  rw [View.read_writes_junk_eq_canon]
  unfold kernelRun1_A
  dsimp only
  rw [View.canon_unit_zero (by decide), pos1, start1]
  have hy : y = ix3 0 (y 1) (y 2) := by
    funext a
    match a with
    | ⟨0, _⟩ => exact Subsingleton.elim (α := Fin 1) _ _
    | ⟨1, _⟩ => rfl
    | ⟨2, _⟩ => rfl
  rw [hy]
  have h0 : (grid1.coords t 0).val < 2 := (grid1.coords t 0).isLt
  have h1 : (grid1.coords t 1).val < 8 := (grid1.coords t 1).isLt
  have h2 : (y 1).val < 256 := (y 1).isLt
  refine (place1 V c t (y 1) (y 2) ⟨(grid1.coords t 0).val, h0⟩ ⟨256 * (grid1.coords t 1).val + (y 1).val, by omega⟩ rfl rfl).trans ?_
  refine placeHi_congr _ _ (Fin.ext ?_) (Fin.ext ?_) (Fin.ext ?_)
  · blk_simp [index1_2 t]
    rfl
  · blk_simp [index1_2 t]
    exact congrArg (· + _) (Nat.mul_comm _ _)
  · blk_simp [index1_2 t]

end TopK

end
-- ==== Proof.Ref.lean ====
/-
  The reference's probabilities: the softmax of each row's largest scores in descending order.
-/
module

public import proofs.«01_k».proof.Proof.Arr
public import proofs.«01_k».proof.Proof.Rank
public import proofs.«01_k».proof.Proof.Gen.ReferenceIdeal.Read

@[expose] public section

set_option maxRecDepth 16384

noncomputable section

namespace TopK

open Idealize.ShloMosaic Idealize.ShloMosaic.TcCoe Idealize.ShloMosaic.SortNet Cert.ReferenceIdeal Cert.ReferenceIdeal.Gen Idealize.SL.Sem
open Cert.ReferenceIdeal.Read

/-- The row of a 2 × 4096 × 4096 array at (b, s). -/
abbrev line (x : FVec Ideal S2x4096x4096 .f32) (b : Fin 2) (s : Fin 4096) : Fin 4096 → EReal := fun c => x (ix3 b s c)

theorem values_apply {k : ℕ} (hk : k ≤ 4096) (x : FVec Ideal S2x4096x4096 .f32) (h) (b : Fin 2) (s : Fin 4096) (j : Fin k) :
    (Host.topK (⟨3, ![2, 4096, k]⟩ : Shape) 2 (FloatOps.cmpfTotal .gt) x h).1 (ix3 b s j) =
      line x b s (places (line x b s) (j.castLE hk)) := by
  have al : ∀ c : Fin 4096, (ix3 b s (j.castLE hk)).along (s := S2x4096x4096) 2 c = ix3 b s c := by
    intro c
    funext a
    match a with
    | ⟨0, _⟩ => rfl
    | ⟨1, _⟩ => rfl
    | ⟨2, _⟩ => rfl
  unfold Host.topK
  dsimp only
  refine (extractStridedSlice_apply _ _ _ _ (ix3 b s (j.castLE hk)) (fun a => by
    match a with
    | ⟨0, _⟩ => exact (Nat.zero_add _).symm
    | ⟨1, _⟩ => exact (Nat.zero_add _).symm
    | ⟨2, _⟩ => exact (Nat.zero_add _).symm)).trans ?_
  unfold Host.sort2
  rw [dif_pos (by decide : 2 < 3)]
  dsimp only
  refine (congrArg x (al _)).trans ?_
  unfold line places
  refine congrArg (fun gt : Fin 4096 → Fin 4096 → Bool => x (ix3 b s (sortedFrom gt (j.castLE hk))))
    (funext fun k => funext fun k' => ?_)
  exact congrArg₂ (fun u v : EReal => FloatOps.cmpfTotal (F := Ideal) (φ := .f32) .gt u v == 1#1) (congrArg x (al k)) (congrArg x (al k'))

theorem indices_apply {k : ℕ} (hk : k ≤ 4096) (x : FVec Ideal S2x4096x4096 .f32) (h) (b : Fin 2) (s : Fin 4096) (j : Fin k) :
    (Host.topK (⟨3, ![2, 4096, k]⟩ : Shape) 2 (FloatOps.cmpfTotal .gt) x h).2 (ix3 b s j) =
      BitVec.ofNat 32 (places (line x b s) (j.castLE hk)).val := by
  have al : ∀ c : Fin 4096, (ix3 b s (j.castLE hk)).along (s := S2x4096x4096) 2 c = ix3 b s c := by
    intro c
    funext a
    match a with
    | ⟨0, _⟩ => rfl
    | ⟨1, _⟩ => rfl
    | ⟨2, _⟩ => rfl
  unfold Host.topK
  dsimp only
  refine (extractStridedSlice_apply _ _ _ _ (ix3 b s (j.castLE hk)) (fun a => by
    match a with
    | ⟨0, _⟩ => exact (Nat.zero_add _).symm
    | ⟨1, _⟩ => exact (Nat.zero_add _).symm
    | ⟨2, _⟩ => exact (Nat.zero_add _).symm)).trans ?_
  unfold Host.sort2
  rw [dif_pos (by decide : 2 < 3)]
  dsimp only
  rw [dif_pos (by decide : 2 < 3)]
  have io : ∀ c : Fin 4096, iotaInDim S2x4096x4096 32 (2 : Fin 3) (ix3 b s c) = BitVec.ofNat 32 c.val := fun _ => rfl
  refine (congrArg (iotaInDim S2x4096x4096 32 (2 : Fin 3)) (al _)).trans ((io _).trans ?_)
  unfold places line
  refine congrArg (fun gt : Fin 4096 → Fin 4096 → Bool => BitVec.ofNat 32 (sortedFrom gt (j.castLE hk)).val)
    (funext fun k => funext fun k' => ?_)
  exact congrArg₂ (fun u v : EReal => FloatOps.cmpfTotal (F := Ideal) (φ := .f32) .gt u v == 1#1) (congrArg x (al k)) (congrArg x (al k'))

theorem ofBits_bot : Ideal.ofBits FTy.f32 4286578688#32 = ⊥ := by
  simp [Ideal.ofBits, Ideal.ieee]

/-- The greatest value of a descending row is its first. -/
theorem first_apply (v : FVec Ideal S2x4096x2048 .f32) (b : Fin 2) (s : Fin 4096) (hv : Antitone fun j : Fin 2048 => v (ix3 b s j)) :
    Host.reduce FloatOps.maximumf v (constant S_ .f32 0xFF800000#32) reducesTo_S2x4096x2048_S2x4096_d2 h_S_ (ix2 b s) = v (ix3 b s 0) := by
  pointwise []
  rw [ofBits_bot]
  apply le_antisymm
  · rw [Finset.fold_max_le]
    exact ⟨bot_le, fun j _ => hv (Fin.zero_le j)⟩
  · rw [Finset.le_fold_max]
    exact Or.inr ⟨0, Finset.mem_univ _, le_rfl⟩

variable (x0 : (⟨S2x4096x2048, .f32⟩ : BufTy).Contents (Elt Ideal)) (x1 : (⟨S2x4096x512, .f32⟩ : BufTy).Contents (Elt Ideal)) (x2 : (⟨S2048x128, .f32⟩ : BufTy).Contents (Elt Ideal)) (x3 : (⟨S512x128, .f32⟩ : BufTy).Contents (Elt Ideal)) (x4 : (⟨S128, .f32⟩ : BufTy).Contents (Elt Ideal))

theorem masked_apply (b : Fin 2) (s c : Fin 4096) :
    val_main_v26 x0 x1 x2 x3 x4 (ix3 b s c) =
      if c.val ≤ s.val then scoreAt (val_main_v0 x0 x2) (val_main_v14 x1 x3 x4) b s c else ⊥ := by
  rw [val_main_v26_apply, val_main_call0_v1_apply, val_main_v25_apply, val_main_v24_apply, val_main_v22_apply, val_main_v23_apply,
    val_main_v20_apply, val_main_v21_apply, val_main_v18_apply, val_main_v19_apply, val_main_call0_v2_apply, val_main_call0_v0_apply,
    val_main_cst_3_apply, val_main_v17_apply, val_main_v16_apply, val_main_cst_2_apply, val_main_v15_apply]
  show Scalar.select (IntOp.cmpi CmpIPredicate.sle (BitVec.ofNat 32 c.val) (BitVec.ofNat 32 s.val)) _ (Ideal.ofBits FTy.f32 4286578688#32) = _
  have := s.isLt
  have := c.isLt
  rw [sle_ofNat _ _ (by omega) (by omega), select_ofBool, ofBits_bot]
  simp only [decide_eq_true_eq]
  refine if_congr Iff.rfl ?_ rfl
  unfold scoreAt
  refine congrArg (fun z => Ideal.div z _) (Finset.sum_congr rfl fun k _ => congrArg₂ (· * ·) (congrArg _ ?_) (congrArg _ ?_))
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

theorem values_line (b : Fin 2) (s : Fin 4096) (j : Fin 2048) :
    val_main_values x0 x1 x2 x3 x4 (ix3 b s j) = line (val_main_v26 x0 x1 x2 x3 x4) b s
      (places (line (val_main_v26 x0 x1 x2 x3 x4) b s) (j.castLE (by decide))) := by
  unfold val_main_values
  exact values_apply (by decide) _ _ _ _ _

theorem greatest_apply (b : Fin 2) (s : Fin 4096) :
    val_main_v27 x0 x1 x2 x3 x4 (ix2 b s) = val_main_values x0 x1 x2 x3 x4 (ix3 b s 0) := by
  have hv : Antitone fun j : Fin 2048 => val_main_values x0 x1 x2 x3 x4 (ix3 b s j) := by
    intro i j h
    simp only [values_line]
    exact places_antitone _ (Fin.castLE_le_castLE_iff _ |>.mpr h)
  unfold val_main_v27 val_main_cst_4
  generalize val_main_values x0 x1 x2 x3 x4 = v at hv ⊢
  exact first_apply v b s hv

theorem exps_apply (b : Fin 2) (s : Fin 4096) (j : Fin 2048) :
    val_main_v33 x0 x1 x2 x3 x4 (ix3 b s j) =
      Ideal.exp (val_main_values x0 x1 x2 x3 x4 (ix3 b s j) - val_main_values x0 x1 x2 x3 x4 (ix3 b s 0)) := by
  have e : idx_main_v30 (idx_main_v31 (ix3 b s j)) = ix2 b s := by
    funext a
    match a with
    | ⟨0, _⟩ => rfl
    | ⟨1, _⟩ => rfl
  rw [val_main_v33_apply, val_main_v32_apply, val_main_v31_apply, val_main_v30_apply, val_main_v29_apply, val_main_v28_apply,
    val_main_cst_5_apply, e, greatest_apply]
  generalize val_main_values x0 x1 x2 x3 x4 = v
  show Ideal.exp (v (ix3 b s j) - max (Ideal.ofBits FTy.f32 4286578688#32) (v (ix3 b s 0))) = _
  rw [ofBits_bot, max_eq_right bot_le]

theorem probs_apply (b : Fin 2) (s : Fin 4096) (j : Fin 2048) :
    val_main_v37 x0 x1 x2 x3 x4 (ix3 b s j) = soft (fun l => val_main_values x0 x1 x2 x3 x4 (ix3 b s l)) j := by
  have e : idx_main_v35 (idx_main_v36 (ix3 b s j)) = ix2 b s := by
    funext a
    match a with
    | ⟨0, _⟩ => rfl
    | ⟨1, _⟩ => rfl
  have e' : ∀ k : Fin 2048, idx_main_v34 (ix2 b s) k = ix3 b s k := by
    intro k
    funext a
    match a with
    | ⟨0, _⟩ => rfl
    | ⟨1, _⟩ => rfl
    | ⟨2, _⟩ => rfl
  rw [val_main_v37_apply, val_main_v36_apply, val_main_v35_apply, e, val_main_v34_apply, val_main_cst_6_apply]
  simp only [e', exps_apply]
  generalize val_main_values x0 x1 x2 x3 x4 = v
  show Ideal.div _ (Ideal.ofBits FTy.f32 0#32 + _) = _
  have z : Ideal.ofBits FTy.f32 0#32 = 0 := by simp [Ideal.ofBits, Ideal.ieee]
  rw [z, zero_add]
  rfl

/-- The keys of a row of the shorter launch are the masked scores with their signs turned. -/
theorem keys_lo (b : Fin 2) (s : Fin 2048) (q : FVec Ideal ⟨3, ![2, 2048, 128]⟩ .f32)
    (hq : ∀ x, q (ix3 b s x) = val_main_v0 x0 x2 (ix3 b (s.castLE (by decide)) x)) (c : Fin 2048) :
    keyOf s.val c.val (scoreAt q (val_main_v14 x1 x3 x4) b s (c.castLE (by decide))) =
      0 - line (val_main_v26 x0 x1 x2 x3 x4) b (s.castLE (by decide)) (c.castLE (by decide)) := by
  show _ = 0 - val_main_v26 x0 x1 x2 x3 x4 (ix3 b (s.castLE (by decide)) (c.castLE (by decide)))
  rw [masked_apply]
  unfold keyOf scoreAt
  simp only [hq]
  show (if c.val ≤ s.val then _ else _) = 0 - (if c.val ≤ s.val then _ else _)
  by_cases h : c.val ≤ s.val
  · rw [if_pos h, if_pos h]
  · rw [if_neg h, if_neg h]
    rfl

/-- The masked scores of the shorter launch's rows are hidden from column 2048 on. -/
theorem rest_lo (b : Fin 2) (s : Fin 2048) (c : Fin 4096) (hc : 2048 ≤ c.val) :
    line (val_main_v26 x0 x1 x2 x3 x4) b (s.castLE (by decide)) c = ⊥ := by
  show val_main_v26 x0 x1 x2 x3 x4 (ix3 b (s.castLE (by decide)) c) = ⊥
  rw [masked_apply]
  refine if_neg ?_
  have := s.isLt
  show ¬ c.val ≤ s.val
  omega

/-- The keys of a row of the longer launch are the masked scores with their signs turned. -/
theorem keys_hi (b : Fin 2) (s : Fin 2048) (c : Fin 4096) :
    keyOf (2048 + s.val) c.val (scoreAt (val_main_v0 x0 x2) (val_main_v14 x1 x3 x4) b ⟨2048 + s.val, by omega⟩ c) =
      0 - line (val_main_v26 x0 x1 x2 x3 x4) b ⟨2048 + s.val, by omega⟩ c := by
  show _ = 0 - val_main_v26 x0 x1 x2 x3 x4 (ix3 b ⟨2048 + s.val, by omega⟩ c)
  rw [masked_apply]
  unfold keyOf
  show (if c.val ≤ 2048 + s.val then _ else _) = 0 - (if c.val ≤ 2048 + s.val then _ else _)
  by_cases h : c.val ≤ 2048 + s.val
  · rw [if_pos h, if_pos h]
  · rw [if_neg h, if_neg h]
    rfl

/-- The reference's row at (b, s) against the shorter launch's. -/
theorem probs_lo (b : Fin 2) (s : Fin 2048) (j : Fin 2048) (q : FVec Ideal ⟨3, ![2, 2048, 128]⟩ .f32)
    (hq : ∀ x, q (ix3 b s x) = val_main_v0 x0 x2 (ix3 b (s.castLE (by decide)) x)) :
    rowLo q (val_main_v14 x1 x3 x4) b s j = val_main_v37 x0 x1 x2 x3 x4 (ix3 b (s.castLE (by decide)) j) := by
  rw [probs_apply]
  unfold rowLo
  refine congrArg (fun t => soft t j) (funext fun l => ?_)
  rw [values_line]
  exact top_eq (p := 11) (by decide) _ _ (keys_lo x0 x1 x2 x3 x4 b s q hq) (rest_lo x0 x1 x2 x3 x4 b s) l

/-- The reference's row at (b, 2048 + s) against the longer launch's. -/
theorem probs_hi (b : Fin 2) (s : Fin 2048) (j : Fin 2048) :
    rowHi (val_main_v0 x0 x2) (val_main_v14 x1 x3 x4) b s j = val_main_v37 x0 x1 x2 x3 x4 (ix3 b ⟨2048 + s.val, by omega⟩ j) := by
  rw [probs_apply]
  unfold rowHi
  refine congrArg (fun t => soft t j) (funext fun l => ?_)
  rw [values_line]
  exact top_eq (p := 12) (by decide) _ _ (keys_hi x0 x1 x2 x3 x4 b s) (fun c hc => absurd c.isLt (by omega)) (l.castLE (by decide))

end TopK

end
-- ==== Proof.RefPos.lean ====
/-
  The reference's positions against the kernel's, and what the claim's mask says of an element it selects.
-/
module

public import proofs.«01_k».proof.On_untied
public import proofs.«01_k».proof.Proof.ArrPos
public import proofs.«01_k».proof.Proof.Ref

@[expose] public section

set_option maxRecDepth 16384

noncomputable section

namespace TopK

open Idealize.ShloMosaic Idealize.ShloMosaic.TcCoe Idealize.ShloMosaic.SortNet Cert.ReferenceIdeal Cert.ReferenceIdeal.Gen Idealize.SL.Sem
open Cert.ReferenceIdeal.Read

/-- The mask's own side conditions. -/
theorem mask_facts : Cert.On_untied.Facts where
  reducesTo_S2x4096x128_S2x4096_d2 := reducesTo_S2x4096x128_S2x4096_d2
  h_S_ := h_S_
  bcast_S2x4096_S2x4096x1_0_1 := bcast_S2x4096_S2x4096x1_0_1
  bcast_S_S2x4096x1 := bcast_S_S2x4096x1
  bcast_S2x4096x1_S2x4096x128_0_1_2 := bcast_S2x4096x1_S2x4096x128_0_1_2
  bcast_S128_S1x1x128_2 := bcast_S128_S1x1x128_2
  bcast_S1x1x128_S2x4096x128_0_1_2 := bcast_S1x1x128_S2x4096x128_0_1_2
  bcast_S_S2x4096x4096 := bcast_S_S2x4096x4096
  bcast_S4096_S4096x1_0 := bcast_S4096_S4096x1_0
  bcast_S4096_S1x4096_1 := bcast_S4096_S1x4096_1
  bcast_S4096x1_S4096x4096_0_1 := bcast_S4096x1_S4096x4096_0_1
  bcast_S1x4096_S4096x4096_0_1 := bcast_S1x4096_S4096x4096_0_1
  bcast_S4096x4096_S1x4096x4096_1_2 := bcast_S4096x4096_S1x4096x4096_1_2
  bcast_S1x4096x4096_S2x4096x4096_0_1_2 := bcast_S1x4096x4096_S2x4096x4096_0_1_2
  sliceFits_S2x4096x4096_S2x4096x2049 := by decide
  slices_S2x4096x2049_S2x4096x2048_0_0_0 := by decide
  slices_S2x4096x2049_S2x4096x2048_0_0_1 := by decide
  slices_S2x4096x2048_S2x4096x2047_0_0_0 := by decide
  concatenates_S2x4096x1_S2x4096x2047_S2x4096x2048_d2 := by decide
  bcast_S_S2x4096x2048 := by decide
  dot_S2x4096x2048_S2048x128_S2x4096x128_2_0_01_1_n_n_wf := dot_S2x4096x2048_S2048x128_S2x4096x128_2_0_01_1_n_n_wf
  dot_S2x4096x512_S512x128_S2x4096x128_2_0_01_1_n_n_wf := dot_S2x4096x512_S512x128_S2x4096x128_2_0_01_1_n_n_wf
  dot_S2x4096x128_S2x4096x128_S2x4096x4096_2_2_1_1_0_0_wf := dot_S2x4096x128_S2x4096x128_S2x4096x4096_2_2_1_1_0_0_wf

attribute [local instance] mask_facts

/-- The 2049 greatest of every row of `w`, in descending order. -/
def best (w : FVec Ideal S2x4096x4096 .f32) : FVec Ideal Cert.On_untied.S2x4096x2049 .f32 :=
  (Host.topK Cert.On_untied.S2x4096x2049 2 (FloatOps.cmpfTotal .gt) w Cert.On_untied.Facts.sliceFits_S2x4096x4096_S2x4096x2049).1

/-- Where an entry is strictly above the next. -/
def below (v : FVec Ideal Cert.On_untied.S2x4096x2049 .f32) : IVec S2x4096x2048 1 :=
  cmpf .ogt (extractStridedSlice S2x4096x2048 ![0, 0, 0] v Cert.On_untied.Facts.slices_S2x4096x2049_S2x4096x2048_0_0_0)
    (extractStridedSlice S2x4096x2048 ![0, 0, 1] v Cert.On_untied.Facts.slices_S2x4096x2049_S2x4096x2048_0_0_1)

/-- Where the entry before is strictly above, or there is none. -/
def above (v : FVec Ideal Cert.On_untied.S2x4096x2049 .f32) : IVec S2x4096x2048 1 :=
  concatenate S2x4096x2048 2 [⟨Cert.On_untied.S2x4096x1, broadcastInDim Cert.On_untied.S2x4096x1 ![] Cert.On_untied.Facts.bcast_S_S2x4096x1 (constantI Cert.On_untied.S_ 1 1#1)⟩,
    ⟨Cert.On_untied.S2x4096x2047, extractStridedSlice Cert.On_untied.S2x4096x2047 ![0, 0, 0] (below v) Cert.On_untied.Facts.slices_S2x4096x2048_S2x4096x2047_0_0_0⟩]
    Cert.On_untied.Facts.concatenates_S2x4096x1_S2x4096x2047_S2x4096x2048_d2

variable (x0 : (⟨S2x4096x2048, .f32⟩ : BufTy).Contents (Elt Ideal)) (x1 : (⟨S2x4096x512, .f32⟩ : BufTy).Contents (Elt Ideal)) (x2 : (⟨S2048x128, .f32⟩ : BufTy).Contents (Elt Ideal)) (x3 : (⟨S512x128, .f32⟩ : BufTy).Contents (Elt Ideal)) (x4 : (⟨S128, .f32⟩ : BufTy).Contents (Elt Ideal))

theorem mask_eq : (Cert.On_untied.fn (F := Ideal) x0 x1 x2 x3 x4).1 =
    andi (below (best (val_main_v26 x0 x1 x2 x3 x4))) (above (best (val_main_v26 x0 x1 x2 x3 x4))) := rfl

theorem below_apply (v : FVec Ideal Cert.On_untied.S2x4096x2049 .f32) (b : Fin 2) (s : Fin 4096) (j : Fin 2048) :
    below v (ix3 b s j) = BitVec.ofBool (decide (v (ix3 b s ⟨j.val + 1, by omega⟩) < v (ix3 b s ⟨j.val, by omega⟩))) := by
  have e0 : extractStridedSlice S2x4096x2048 ![0, 0, 0] v Cert.On_untied.Facts.slices_S2x4096x2049_S2x4096x2048_0_0_0 (ix3 b s j) =
      v (ix3 b s ⟨j.val, by omega⟩) := extractStridedSlice_apply _ _ _ _ _ (fun a => by
    match a with
    | ⟨0, _⟩ => exact (Nat.zero_add _).symm
    | ⟨1, _⟩ => exact (Nat.zero_add _).symm
    | ⟨2, _⟩ => exact (Nat.zero_add _).symm)
  have e1 : extractStridedSlice S2x4096x2048 ![0, 0, 1] v Cert.On_untied.Facts.slices_S2x4096x2049_S2x4096x2048_0_0_1 (ix3 b s j) =
      v (ix3 b s ⟨j.val + 1, by omega⟩) := extractStridedSlice_apply _ _ _ _ _ (fun a => by
    match a with
    | ⟨0, _⟩ => exact (Nat.zero_add _).symm
    | ⟨1, _⟩ => exact (Nat.zero_add _).symm
    | ⟨2, _⟩ => exact Nat.add_comm _ _)
  unfold below
  show BitVec.ofBool (decide (_ < _)) = _
  rw [e0, e1]

theorem above_apply (v : FVec Ideal Cert.On_untied.S2x4096x2049 .f32) (b : Fin 2) (s : Fin 4096) (j : Fin 2048) (i : Fin 2048)
    (h : i.val + 1 = j.val) : above v (ix3 b s j) = below v (ix3 b s i) := by
  unfold above
  refine (concatenate_pair_apply_right (t := S2x4096x2048) (s₁ := Cert.On_untied.S2x4096x1) (s₂ := Cert.On_untied.S2x4096x2047) 2 _ _ _ (ix3 b s j) rfl rfl
    (ix3 b s (⟨i.val, by omega⟩ : Fin 2047)) (fun a ha => by
      match a, ha with
      | ⟨0, _⟩, _ => rfl
      | ⟨1, _⟩, _ => rfl
      | ⟨2, _⟩, ha => exact absurd rfl ha) (show i.val + 1 = j.val from h)).trans ?_
  exact extractStridedSlice_apply _ _ _ _ _ (fun a => by
    match a with
    | ⟨0, _⟩ => exact (Nat.zero_add _).symm
    | ⟨1, _⟩ => exact (Nat.zero_add _).symm
    | ⟨2, _⟩ => exact (Nat.zero_add _).symm)

theorem and_one (a b : BitVec 1) (h : IntOp.andi a b = 1#1) : a = 1#1 ∧ b = 1#1 := by
  revert h
  unfold IntOp.andi
  revert a b
  decide

/-- An element the mask selects is apart from its neighbours in the row's descending order. -/
theorem mask_apart (w : FVec Ideal S2x4096x4096 .f32) (b : Fin 2) (s : Fin 4096) (j : Fin 2048)
    (h : andi (below (best w)) (above (best w)) (ix3 b s j) = 1#1) : Apart (line w b s) (j.castLE (by decide)) := by
  have hb : ∀ l : Fin 2049, best w (ix3 b s l) = line w b s (places (line w b s) (l.castLE (by decide))) :=
    fun l => values_apply (by decide) _ _ _ _ _
  have lt_of (i : Fin 2048) (hi : below (best w) (ix3 b s i) = 1#1) :
      best w (ix3 b s ⟨i.val + 1, by omega⟩) < best w (ix3 b s ⟨i.val, by omega⟩) := by
    rw [below_apply] at hi
    by_contra hn
    rw [decide_eq_false hn] at hi
    exact absurd hi (by decide)
  obtain ⟨h1, h2⟩ := and_one _ _ (show IntOp.andi (below (best w) (ix3 b s j)) (above (best w) (ix3 b s j)) = 1#1 from h)
  constructor
  · intro i hi
    have hi' : i.val + 1 = j.val := hi
    have hj := j.isLt
    rw [above_apply _ b s j ⟨i.val, by omega⟩ hi'] at h2
    have h3 := lt_of _ h2
    rw [hb, hb] at h3
    have ej : (Fin.castLE (by decide) (⟨i.val + 1, by omega⟩ : Fin 2049) : Fin 4096) = j.castLE (by decide) := Fin.ext hi'
    have ei : (Fin.castLE (by decide) (⟨i.val, by omega⟩ : Fin 2049) : Fin 4096) = i := Fin.ext rfl
    rw [ej, ei] at h3
    exact h3
  · intro i hi
    have hi' : j.val + 1 = i.val := hi
    have hj := j.isLt
    have h3 := lt_of _ h1
    rw [hb, hb] at h3
    have ei : (Fin.castLE (by decide) (⟨j.val + 1, by omega⟩ : Fin 2049) : Fin 4096) = i := Fin.ext hi'
    have ej : (Fin.castLE (by decide) (⟨j.val, by omega⟩ : Fin 2049) : Fin 4096) = j.castLE (by decide) := Fin.ext rfl
    rw [ej, ei] at h3
    exact h3

theorem indices_line (b : Fin 2) (s : Fin 4096) (j : Fin 2048) :
    val_main_indices x0 x1 x2 x3 x4 (ix3 b s j) =
      BitVec.ofNat 32 (places (line (val_main_v26 x0 x1 x2 x3 x4) b s) (j.castLE (by decide))).val := by
  unfold val_main_indices
  exact indices_apply (by decide) _ _ _ _ _

/-- The reference's positions of the row at (b, s) against the shorter launch's. -/
theorem places_lo (b : Fin 2) (s : Fin 2048) (j : Fin 2048) (q : FVec Ideal ⟨3, ![2, 2048, 128]⟩ .f32)
    (hq : ∀ x, q (ix3 b s x) = val_main_v0 x0 x2 (ix3 b (s.castLE (by decide)) x))
    (h : (Cert.On_untied.fn (F := Ideal) x0 x1 x2 x3 x4).1 (ix3 b (s.castLE (by decide)) j) = 1#1) :
    placeLo q (val_main_v14 x1 x3 x4) b s j = val_main_indices x0 x1 x2 x3 x4 (ix3 b (s.castLE (by decide)) j) := by
  rw [indices_line]
  rw [mask_eq] at h
  unfold placeLo
  exact place_eq (p := 11) (by decide) _ _ (keys_lo x0 x1 x2 x3 x4 b s q hq) (rest_lo x0 x1 x2 x3 x4 b s) j (mask_apart _ b _ j h) _
    (posRun11 _ cols0 (fun i => keysLo q (val_main_v14 x1 x3 x4) b s (i 1)) 0 j)

/-- The reference's positions of the row at (b, 2048 + s) against the longer launch's. -/
theorem places_hi (b : Fin 2) (s : Fin 2048) (j : Fin 2048)
    (h : (Cert.On_untied.fn (F := Ideal) x0 x1 x2 x3 x4).1 (ix3 b ⟨2048 + s.val, by omega⟩ j) = 1#1) :
    placeHi (val_main_v0 x0 x2) (val_main_v14 x1 x3 x4) b s j = val_main_indices x0 x1 x2 x3 x4 (ix3 b ⟨2048 + s.val, by omega⟩ j) := by
  rw [indices_line]
  rw [mask_eq] at h
  unfold placeHi
  exact place_eq (p := 12) (by decide) _ _ (keys_hi x0 x1 x2 x3 x4 b s) (fun c hc => absurd c.isLt (by omega)) (j.castLE (by decide))
    (mask_apart _ b _ j h) _ (posRun12 _ cols1 (fun i => keysHi (val_main_v0 x0 x2) (val_main_v14 x1 x3 x4) b s (i 1)) 0 (j.castLE (by decide)))

end TopK

end
-- ==== Proof.Launch.lean ====
/- The launch read at every buffer: each run ends with every buffer of a core at the contents the
   segments leave, so a result can be read there by its name. -/
module

public import proofs.«01_k».proof.Proof.Gen.KernelIdeal.Frame
public import Idealize.ShloMosaic.Lib.Tactic

@[expose] public section

set_option maxRecDepth 100000

noncomputable section

namespace TopK

open Idealize.ShloMosaic Idealize.SL.Sem Idealize.SL Cert.KernelIdeal Cert.KernelIdeal.Gen
open Idealize.ShloMosaic.TcCoe Idealize.ShloMosaic.Tactic
open Idealize.SL.RA Idealize.SL.BI
open scoped Idealize.SL.BI
open Idealize.SL.BI.BIBase Idealize.SL.BI.Laws Idealize.SL.ProofMode
open Idealize.ShloMosaic.Rounds

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each core's buffers at the last segment's contents. -/
theorem launch_reads : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end TopK
-- ==== Proof.Host.lean ====
/-
  The kernel's two results over the whole launch: every probability is the reference's, and so is every position the
  claim's mask selects.
-/
module

public import proofs.«01_k».proof.Proof.Arr
public import proofs.«01_k».proof.Proof.ArrPos
public import proofs.«01_k».proof.Proof.Ref
public import proofs.«01_k».proof.Proof.RefPos
public import proofs.«01_k».proof.Proof.Launch
public import Idealize.ShloMosaic.Lib.StableHlo.ReadAt

@[expose] public section

set_option maxRecDepth 16384

noncomputable section

namespace TopK

open Idealize.ShloMosaic Idealize.ShloMosaic.TcCoe Idealize.ShloMosaic.SortNet Cert.KernelIdeal Cert.KernelIdeal.Gen Idealize.SL.Sem
open Idealize.ShloMosaic.StableHlo

variable (m : (ℓ : Loc nD τ sig) → Buf (Elt Ideal) ℓ) (ρ : Dev nD → PrngReg) (c : Dev nD)

/-- The projected queries of a core's arguments. -/
abbrev queries : FVec Ideal S2x4096x128 .f32 :=
  Cert.ReferenceIdeal.Read.val_main_v0 (F := Ideal) (m ((c : Thread nD τ).loc main_arg0)) (m ((c : Thread nD τ).loc main_arg2))

/-- The normalised keys of a core's arguments. -/
abbrev keys : FVec Ideal S2x4096x128 .f32 :=
  Cert.ReferenceIdeal.Read.val_main_v14 (F := Ideal) (m ((c : Thread nD τ).loc main_arg1)) (m ((c : Thread nD τ).loc main_arg3))
    (m ((c : Thread nD τ).loc main_arg4))

theorem queries_eq : W1 m ρ c (Proc.devRef .tc main_v0) = queries m c := by
  show StableHlo.after hostOps0 (W0 m ρ c) _ = _
  after_results_simp
  rfl

theorem keys_eq : W1 m ρ c (Proc.devRef .tc main_v14) = keys m c := by
  show StableHlo.after hostOps0 (W0 m ρ c) _ = _
  after_results_simp
  rfl

theorem lower_eq : W1 m ρ c (Proc.devRef .tc main_v15) =
    extractStridedSlice S2x2048x128 ![0, 0, 0] (queries m c) slices_S2x4096x128_S2x2048x128_0_0_0 := by
  show StableHlo.after hostOps0 (W0 m ρ c) _ = _
  after_results_simp
  rfl

theorem joined_eq : W4 m ρ c (Proc.devRef .tc main_v19) =
    concatenate S2x4096x2048 1 [⟨S2x2048x2048, (dat0 (V1 m ρ) c).arrAt 3 cfg0.N⟩, ⟨S2x2048x2048, (dat1 (V2 m ρ) c).arrAt 3 cfg1.N⟩]
      concatenates_S2x2048x2048_S2x2048x2048_S2x4096x2048_d1 := by
  have e0 : W3 m ρ c (Proc.devRef .tc main_v16_1) = (dat0 (V1 m ρ) c).arrAt 3 cfg0.N :=
    (W3_of m ρ c main_v16_1 (by decide)).trans (W2_arr m ρ c 3)
  have e1 : W3 m ρ c (Proc.devRef .tc main_v17_1) = (dat1 (V2 m ρ) c).arrAt 3 cfg1.N := W3_arr m ρ c 3
  show StableHlo.after hostOps2 (W3 m ρ c) _ = _
  after_results_simp
  refine congrArg₂ (fun a b : FVec Ideal S2x2048x2048 .f32 => concatenate S2x4096x2048 1 [⟨S2x2048x2048, a⟩, ⟨S2x2048x2048, b⟩]
    concatenates_S2x2048x2048_S2x2048x2048_S2x4096x2048_d1) (Eq.trans ?_ e0) (Eq.trans ?_ e1)
  · refine binary_result_ne (h := ?_) ..
    decide
  · refine binary_result_ne (h := ?_) ..
    decide

theorem joined_pos : W4 m ρ c (Proc.devRef .tc main_v18) =
    concatenate S2x4096x2048 1 [⟨S2x2048x2048, (dat0 (V1 m ρ) c).arrAt 2 cfg0.N⟩, ⟨S2x2048x2048, (dat1 (V2 m ρ) c).arrAt 2 cfg1.N⟩]
      concatenates_S2x2048x2048_S2x2048x2048_S2x4096x2048_d1 := by
  have e0 : W3 m ρ c (Proc.devRef .tc main_v16_0) = (dat0 (V1 m ρ) c).arrAt 2 cfg0.N :=
    (W3_of m ρ c main_v16_0 (by decide)).trans (W2_arr m ρ c 2)
  have e1 : W3 m ρ c (Proc.devRef .tc main_v17_0) = (dat1 (V2 m ρ) c).arrAt 2 cfg1.N := W3_arr m ρ c 2
  show StableHlo.after hostOps2 (W3 m ρ c) _ = _
  after_results_simp
  refine congrArg₂ (fun a b : IVec S2x2048x2048 32 => concatenate S2x4096x2048 1 [⟨S2x2048x2048, a⟩, ⟨S2x2048x2048, b⟩]
    concatenates_S2x2048x2048_S2x2048x2048_S2x4096x2048_d1) e0 e1

/-- The kernel's second result is the reference's. -/
theorem scores_eq : W4 m ρ c (Proc.devRef .tc main_v19) =
    Cert.ReferenceIdeal.Read.val_main_v37 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  rw [joined_eq, arr0, arr1]
  have q1 : V1 m ρ c main_v15 = extractStridedSlice S2x2048x128 ![0, 0, 0] (queries m c) slices_S2x4096x128_S2x2048x128_0_0_0 := lower_eq m ρ c
  have k1 : V1 m ρ c main_v14 = keys m c := keys_eq m ρ c
  have q2 : V2 m ρ c main_v0 = queries m c := (W2_of m ρ c main_v0 (by decide)).trans (queries_eq m ρ c)
  have k2 : V2 m ρ c main_v14 = keys m c := (W2_of m ρ c main_v14 (by decide)).trans (keys_eq m ρ c)
  rw [q1, k1, q2, k2]
  funext i
  obtain ⟨b, s, j, rfl⟩ : ∃ (b : Fin 2) (s : Fin 4096) (j : Fin 2048), i = ix3 b s j := ⟨i 0, i 1, i 2, by
    funext a
    match a with
    | ⟨0, _⟩ => rfl
    | ⟨1, _⟩ => rfl
    | ⟨2, _⟩ => rfl⟩
  by_cases hs : s.val < 2048
  · refine (concatenate_pair_apply_left (t := S2x4096x2048) (s₁ := S2x2048x2048) (s₂ := S2x2048x2048) 1 _ _ _ (ix3 b s j) rfl (ix3 b (⟨s.val, hs⟩ : Fin 2048) j) (fun a => by
      match a with
      | ⟨0, _⟩ => rfl
      | ⟨1, _⟩ => rfl
      | ⟨2, _⟩ => rfl)).trans ?_
    refine probs_lo _ _ _ _ _ b ⟨s.val, hs⟩ j _ (fun x => ?_)
    exact extractStridedSlice_apply _ _ _ _ _ (fun a => by
      match a with
      | ⟨0, _⟩ => exact (Nat.zero_add _).symm
      | ⟨1, _⟩ => exact (Nat.zero_add _).symm
      | ⟨2, _⟩ => exact (Nat.zero_add _).symm)
  · have hs' : s.val - 2048 < 2048 := by have := s.isLt; omega
    refine (concatenate_pair_apply_right (t := S2x4096x2048) (s₁ := S2x2048x2048) (s₂ := S2x2048x2048) 1 _ _ _ (ix3 b s j) rfl rfl (ix3 b (⟨s.val - 2048, hs'⟩ : Fin 2048) j) (fun a ha => by
      match a, ha with
      | ⟨0, _⟩, _ => rfl
      | ⟨1, _⟩, ha => exact absurd rfl ha
      | ⟨2, _⟩, _ => rfl) (show s.val - 2048 + 2048 = s.val by omega)).trans ?_
    refine (probs_hi _ _ _ _ _ b ⟨s.val - 2048, hs'⟩ j).trans ?_
    have e : (⟨2048 + (s.val - 2048), by omega⟩ : Fin 4096) = s := Fin.ext (by show 2048 + (s.val - 2048) = s.val; omega)
    show _ = Cert.ReferenceIdeal.Read.val_main_v37 _ _ _ _ _ (ix3 b s j)
    exact congrArg (fun s' : Fin 4096 => Cert.ReferenceIdeal.Read.val_main_v37 _ _ _ _ _ (ix3 b s' j)) e

attribute [local instance] mask_facts

/-- The kernel's first result is the reference's, where the mask selects. -/
theorem positions_eq (i : S2x4096x2048.Idx)
    (hi : (Cert.On_untied.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))).1 i = 1#1) :
    W4 m ρ c (Proc.devRef .tc main_v18) i =
    Cert.ReferenceIdeal.Read.val_main_indices (F := Ideal) (m ((c : Thread nD τ).loc main_arg0)) (m ((c : Thread nD τ).loc main_arg1))
      (m ((c : Thread nD τ).loc main_arg2)) (m ((c : Thread nD τ).loc main_arg3)) (m ((c : Thread nD τ).loc main_arg4)) i := by
  rw [joined_pos, arrPos0, arrPos1]
  have q1 : V1 m ρ c main_v15 = extractStridedSlice S2x2048x128 ![0, 0, 0] (queries m c) slices_S2x4096x128_S2x2048x128_0_0_0 := lower_eq m ρ c
  have k1 : V1 m ρ c main_v14 = keys m c := keys_eq m ρ c
  have q2 : V2 m ρ c main_v0 = queries m c := (W2_of m ρ c main_v0 (by decide)).trans (queries_eq m ρ c)
  have k2 : V2 m ρ c main_v14 = keys m c := (W2_of m ρ c main_v14 (by decide)).trans (keys_eq m ρ c)
  rw [q1, k1, q2, k2]
  obtain ⟨b, s, j, rfl⟩ : ∃ (b : Fin 2) (s : Fin 4096) (j : Fin 2048), i = ix3 b s j := ⟨i 0, i 1, i 2, by
    funext a
    match a with
    | ⟨0, _⟩ => rfl
    | ⟨1, _⟩ => rfl
    | ⟨2, _⟩ => rfl⟩
  by_cases hs : s.val < 2048
  · refine (concatenate_pair_apply_left (t := S2x4096x2048) (s₁ := S2x2048x2048) (s₂ := S2x2048x2048) 1 _ _ _ (ix3 b s j) rfl (ix3 b (⟨s.val, hs⟩ : Fin 2048) j) (fun a => by
      match a with
      | ⟨0, _⟩ => rfl
      | ⟨1, _⟩ => rfl
      | ⟨2, _⟩ => rfl)).trans ?_
    refine places_lo _ _ _ _ _ b ⟨s.val, hs⟩ j _ (fun x => ?_) hi
    exact extractStridedSlice_apply _ _ _ _ _ (fun a => by
      match a with
      | ⟨0, _⟩ => exact (Nat.zero_add _).symm
      | ⟨1, _⟩ => exact (Nat.zero_add _).symm
      | ⟨2, _⟩ => exact (Nat.zero_add _).symm)
  · have hs' : s.val - 2048 < 2048 := by have := s.isLt; omega
    refine (concatenate_pair_apply_right (t := S2x4096x2048) (s₁ := S2x2048x2048) (s₂ := S2x2048x2048) 1 _ _ _ (ix3 b s j) rfl rfl (ix3 b (⟨s.val - 2048, hs'⟩ : Fin 2048) j) (fun a ha => by
      match a, ha with
      | ⟨0, _⟩, _ => rfl
      | ⟨1, _⟩, ha => exact absurd rfl ha
      | ⟨2, _⟩, _ => rfl) (show s.val - 2048 + 2048 = s.val by omega)).trans ?_
    have e : (⟨2048 + (s.val - 2048), by omega⟩ : Fin 4096) = s := Fin.ext (by show 2048 + (s.val - 2048) = s.val; omega)
    rw [← e] at hi
    refine (places_hi _ _ _ _ _ b ⟨s.val - 2048, hs'⟩ j hi).trans ?_
    show _ = Cert.ReferenceIdeal.Read.val_main_indices _ _ _ _ _ (ix3 b s j)
    exact congrArg (fun s' : Fin 4096 => Cert.ReferenceIdeal.Read.val_main_indices _ _ _ _ _ (ix3 b s' j)) e

end TopK

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Host
public import Idealize.ShloMosaic.Adequacy
public import Idealize.ShloMosaic.Init

@[expose] public section

noncomputable section

namespace Cert.Proof

open Idealize.ShloMosaic Idealize.SL.Sem

/-- The kernel as written: it runs, its arguments stay, its counters end at zero. -/
theorem frame_p : Cert.quiescent_Kernel := fun m ρ _ => Cert.Kernel.Gen.frame m ρ

/-- The same of the kernel over the extended reals. -/
theorem frame_pi : Cert.quiescent_KernelIdeal := fun m ρ _ => Cert.KernelIdeal.Gen.frame m ρ

/-- The same of the reference, which is host operations only. -/
theorem frame_ri : Cert.quiescent_ReferenceIdeal := by
  intro m ρ _
  exact (θ_run Cert.ReferenceIdeal.defs _ _).mono (fun r h =>
      ⟨fun c => (h c).2.2, Idealize.ShloMosaic.sem_eq_zero_of_no_sems (by decide) r.2⟩)
    (Cert.ReferenceIdeal.Value.run (F := Ideal) m ρ)

/-- The large constant's name stands for `⊤`. -/
theorem preserves : Cert.preserves_Kernel_KernelIdeal :=
  IdealRules.named_const.statement Cert.KernelIdeal.κ "big" .f32 0x7149F2CA#32 ⊤ rfl

attribute [local instance] TopK.mask_facts

open Idealize.ShloMosaic.TcCoe in
/-- Over the extended reals, whatever the arguments hold, the kernel's probabilities are the reference's, and so are
    its positions wherever the selected score differs from its neighbours'. -/
theorem results : Cert.algebraic_KernelIdeal_ReferenceIdeal_on_untied := by
  intro m g m' g' _ hagree
  refine ⟨fun c => Cert.ReferenceIdeal.Read.val_main_indices (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), fun c => Cert.ReferenceIdeal.Read.val_main_v37 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ?_) (TopK.launch_reads m g)
    refine ⟨fun i hi => ?_, fun i _ => ?_, ?_, ?_, ?_, ?_, ?_⟩
    · exact (congrFun (h c _ (Cert.KernelIdeal.Gen.mem_uc Cert.KernelIdeal.main_v18 (by decide))) i).trans (TopK.positions_eq m g c i hi)
    · exact congrFun ((h c _ (Cert.KernelIdeal.Gen.mem_uc Cert.KernelIdeal.main_v19 (by decide))).trans (TopK.scores_eq m g c)) i
    · exact (h c _ (Cert.KernelIdeal.Gen.mem_uc Cert.KernelIdeal.main_arg0 (by decide))).trans (Cert.KernelIdeal.Gen.W4_main_arg0 m g c)
    · exact (h c _ (Cert.KernelIdeal.Gen.mem_uc Cert.KernelIdeal.main_arg1 (by decide))).trans (Cert.KernelIdeal.Gen.W4_main_arg1 m g c)
    · exact (h c _ (Cert.KernelIdeal.Gen.mem_uc Cert.KernelIdeal.main_arg2 (by decide))).trans (Cert.KernelIdeal.Gen.W4_main_arg2 m g c)
    · exact (h c _ (Cert.KernelIdeal.Gen.mem_uc Cert.KernelIdeal.main_arg3 (by decide))).trans (Cert.KernelIdeal.Gen.W4_main_arg3 m g c)
    · exact (h c _ (Cert.KernelIdeal.Gen.mem_uc Cert.KernelIdeal.main_arg4 (by decide))).trans (Cert.KernelIdeal.Gen.W4_main_arg4 m g c)
  · refine (θ_run Cert.ReferenceIdeal.defs _ _).mono (fun r h c => ?_) (Cert.ReferenceIdeal.Value.run (F := Ideal) m' g')
    refine ⟨fun i _ => ?_, fun i _ => ?_, (h c).2.2⟩
    · refine congrFun ((h c).1.trans ?_) i
      rw [Cert.ReferenceIdeal.Read.val_main_indices_eq, (hagree c).1, (hagree c).2.1, (hagree c).2.2.1, (hagree c).2.2.2.1, (hagree c).2.2.2.2]
    · refine congrFun ((h c).2.1.trans ?_) i
      rw [Cert.ReferenceIdeal.Read.val_main_v37_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, TopK.mask_facts,
    frame_p, frame_pi, frame_ri, preserves, results⟩

end Cert.Proof

end
